-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_round_up [hPre_lengths_round_up : Cert.Pre_lengths_round_up.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_round_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_round_up [hPre_lengths_round_up : Cert.Pre_lengths_round_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_round_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_lengths_round_up [hKernelIdeal : Cert.KernelIdeal.Facts] [hPre_lengths_round_up : Cert.Pre_lengths_round_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_round_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_lengths_round_up [hReferenceIdeal : Cert.ReferenceIdeal.Facts] [hPre_lengths_round_up : Cert.Pre_lengths_round_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_round_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_lengths_round_up [hKernelIdeal : Cert.KernelIdeal.Facts] [hReferenceIdeal : Cert.ReferenceIdeal.Facts] [hPre_lengths_round_up : Cert.Pre_lengths_round_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_round_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v18_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_lengths_round_up : Cert.Pre_lengths_round_up.Facts),
    quiescent_Kernel (hKernel := hKernel)
    ∧ quiescent_KernelIdeal (hKernelIdeal := hKernelIdeal)
    ∧ quiescent_KernelIdeal_pre_lengths_round_up (hKernelIdeal := hKernelIdeal) (hPre_lengths_round_up := hPre_lengths_round_up)
    ∧ quiescent_ReferenceIdeal (hReferenceIdeal := hReferenceIdeal)
    ∧ quiescent_ReferenceIdeal_pre_lengths_round_up (hReferenceIdeal := hReferenceIdeal) (hPre_lengths_round_up := hPre_lengths_round_up)
    ∧ preserves_Kernel_KernelIdeal
    ∧ algebraic_KernelIdeal_ReferenceIdeal_pre_lengths_round_up (hKernelIdeal := hKernelIdeal) (hReferenceIdeal := hReferenceIdeal) (hPre_lengths_round_up := hPre_lengths_round_up)
-- ==== Pre_lengths_round_up.lean ====
abbrev S12x16384x6x160 : Shape := ⟨4, ![12, 16384, 6, 160]⟩
abbrev S12x16384x6 : Shape := ⟨3, ![12, 16384, 6]⟩
abbrev S12 : Shape := ⟨1, ![12]⟩
abbrev S_ : Shape := ⟨0, ![]⟩

class Facts : Prop where
  bcast_S_S12 : S_.BroadcastsInDim S12 (![] : Fin 0 → Fin S12.rank)

variable [Facts]

def fn {F : FTy → Type} [FloatOps F] (main_arg0 : IVec S12x16384x6x160 8) (main_arg1 : FVec F S12x16384x6 .f32) (main_arg2 : IVec S12 32) (main_arg3 : IVec S12 32) (main_arg4 : IVec S12 32) : IVec S12 1 :=
  let main_c : IVec S_ 32 := constantI S_ 32 2147482624#32
  let main_v0 : IVec S12 32 := broadcastInDim S12 ![] bcast_S_S12 main_c
  let main_v1 : IVec S12 1 := cmpi .sle main_arg2 main_v0
  main_v1
-- ==== Kernel.lean ====
abbrev S12x16384x6x160 : Shape := ⟨4, ![12, 16384, 6, 160]⟩
abbrev S12x16384x6 : Shape := ⟨3, ![12, 16384, 6]⟩
abbrev S12 : Shape := ⟨1, ![12]⟩
abbrev S80 : Shape := ⟨1, ![80]⟩
abbrev S_ : Shape := ⟨0, ![]⟩
abbrev S12x1 : Shape := ⟨2, ![12, 1]⟩
abbrev S1x80 : Shape := ⟨2, ![1, 80]⟩
abbrev S12x80 : Shape := ⟨2, ![12, 80]⟩
abbrev S12x80x1 : Shape := ⟨3, ![12, 80, 1]⟩
abbrev S12x80x128 : Shape := ⟨3, ![12, 80, 128]⟩
abbrev S12x6x160x16384 : Shape := ⟨4, ![12, 6, 160, 16384]⟩
abbrev S12x6x16384 : Shape := ⟨3, ![12, 6, 16384]⟩
abbrev S1x6x160x1024 : Shape := ⟨4, ![1, 6, 160, 1024]⟩
abbrev S1 : Shape := ⟨1, ![1]⟩
abbrev S1x6x1024 : Shape := ⟨3, ![1, 6, 1024]⟩
abbrev S1x80x128 : Shape := ⟨3, ![1, 80, 128]⟩
abbrev S1x128 : Shape := ⟨2, ![1, 128]⟩
abbrev S80x128 : Shape := ⟨2, ![80, 128]⟩
abbrev S1x1x160x128 : Shape := ⟨4, ![1, 1, 160, 128]⟩
abbrev S160x128 : Shape := ⟨2, ![160, 128]⟩
abbrev S128 : Shape := ⟨1, ![128]⟩
abbrev S1x1x128 : Shape := ⟨3, ![1, 1, 128]⟩

abbrev nBuf : Space → Nat
  | .hbm => 35
  | .vmem => 12
  | .smem => 2
  | _ => 0

abbrev bufTy : (tb : Table) → Fin (tcTables nBuf tb) → BufTy
  | .hbm, ⟨0, _⟩ => ⟨S12x16384x6x160, .i8⟩
  | .hbm, ⟨1, _⟩ => ⟨S12x16384x6, .f32⟩
  | .hbm, ⟨2, _⟩ => ⟨S12, .i32⟩
  | .hbm, ⟨3, _⟩ => ⟨S80, .f32⟩
  | .hbm, ⟨4, _⟩ => ⟨S_, .f32⟩
  | .hbm, ⟨5, _⟩ => ⟨S80, .f32⟩
  | .hbm, ⟨6, _⟩ => ⟨S80, .f32⟩
  | .hbm, ⟨7, _⟩ => ⟨S_, .f32⟩
  | .hbm, ⟨8, _⟩ => ⟨S80, .f32⟩
  | .hbm, ⟨9, _⟩ => ⟨S80, .f32⟩
  | .hbm, ⟨10, _⟩ => ⟨S80, .f32⟩
  | .hbm, ⟨11, _⟩ => ⟨S_, .f32⟩
  | .hbm, ⟨12, _⟩ => ⟨S80, .f32⟩
  | .hbm, ⟨13, _⟩ => ⟨S80, .f32⟩
  | .hbm, ⟨14, _⟩ => ⟨S_, .f32⟩
  | .hbm, ⟨15, _⟩ => ⟨S80, .f32⟩
  | .hbm, ⟨16, _⟩ => ⟨S80, .f32⟩
  | .hbm, ⟨17, _⟩ => ⟨S12, .f32⟩
  | .hbm, ⟨18, _⟩ => ⟨S12x1, .f32⟩
  | .hbm, ⟨19, _⟩ => ⟨S1x80, .f32⟩
  | .hbm, ⟨20, _⟩ => ⟨S12x80, .f32⟩
  | .hbm, ⟨21, _⟩ => ⟨S12x80, .f32⟩
  | .hbm, ⟨22, _⟩ => ⟨S12x80, .f32⟩
  | .hbm, ⟨23, _⟩ => ⟨S12x80, .f32⟩
  | .hbm, ⟨24, _⟩ => ⟨S12x80x1, .f32⟩
  | .hbm, ⟨25, _⟩ => ⟨S12x80x128, .f32⟩
  | .hbm, ⟨26, _⟩ => ⟨S12x80, .f32⟩
  | .hbm, ⟨27, _⟩ => ⟨S12x80x1, .f32⟩
  | .hbm, ⟨28, _⟩ => ⟨S12x80x128, .f32⟩
  | .hbm, ⟨29, _⟩ => ⟨S12x6x160x16384, .i8⟩
  | .hbm, ⟨30, _⟩ => ⟨S12x6x16384, .f32⟩
  | .hbm, ⟨31, _⟩ => ⟨S12x6x160x16384, .i8⟩
  | .hbm, ⟨32, _⟩ => ⟨S12x6x16384, .f32⟩
  | .hbm, ⟨33, _⟩ => ⟨S12x16384x6x160, .i8⟩
  | .hbm, ⟨34, _⟩ => ⟨S12x16384x6, .f32⟩
  | .local _ .vmem, ⟨0, _⟩ => ⟨S1x6x160x1024, .i8⟩
  | .local _ .vmem, ⟨1, _⟩ => ⟨S1x6x160x1024, .i8⟩
  | .local _ .vmem, ⟨2, _⟩ => ⟨S1x6x1024, .f32⟩
  | .local _ .vmem, ⟨3, _⟩ => ⟨S1x6x1024, .f32⟩
  | .local _ .vmem, ⟨4, _⟩ => ⟨S1x80x128, .f32⟩
  | .local _ .vmem, ⟨5, _⟩ => ⟨S1x80x128, .f32⟩
  | .local _ .vmem, ⟨6, _⟩ => ⟨S1x80x128, .f32⟩
  | .local _ .vmem, ⟨7, _⟩ => ⟨S1x80x128, .f32⟩
  | .local _ .vmem, ⟨8, _⟩ => ⟨S1x6x160x1024, .i8⟩
  | .local _ .vmem, ⟨9, _⟩ => ⟨S1x6x160x1024, .i8⟩
  | .local _ .vmem, ⟨10, _⟩ => ⟨S1x6x1024, .f32⟩
  | .local _ .vmem, ⟨11, _⟩ => ⟨S1x6x1024, .f32⟩
  | .local _ .smem, ⟨0, _⟩ => ⟨S12, .i32⟩
  | .local _ .smem, ⟨1, _⟩ => ⟨S12, .i32⟩
  | _, _ => ⟨S12x16384x6x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v25 : Ref sig .tc := ⟨.hbm, 33, rfl⟩
abbrev main_v26 : Ref sig .tc := ⟨.hbm, 34, rfl⟩
abbrev main_arg2 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 16], ![false, false]⟩

abbrev pre0 : Pipeline.Prefetch sig := ⟨2, ![main_arg2.idx, main_arg4.idx], fun | 0 => main_arg2.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_1 : BitVec 32 := 0#32
  let c8_i32 : BitVec 32 := 8#32
  let v11 : BitVec 32 := Scalar.addi c0_i32_1 c8_i32
  let c1_i32 : BitVec 32 := 1#32
  ⟨c0_i32_1, v11, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  v12
def k0_off2 (k0_t1 : Fin k0_t1_loop.trips) : Fin 4 → Nat :=
  let c0_9 : Index := 0#32
  let c0_10 : Index := 0#32
  let c0_11 : Index := 0#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v34 : Index := Scalar.indexCast v13
  ![0, 0, 0, v34.toNat]
def k0_off3 (k0_t1 : Fin k0_t1_loop.trips) : Fin 3 → Nat :=
  let c0_13 : Index := 0#32
  let c0_14 : Index := 0#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v51 : Index := Scalar.indexCast v13
  ![0, 0, v51.toNat]
def k0_off4 (k0_t1 : Fin k0_t1_loop.trips) : Fin 4 → Nat :=
  let c0_28 : Index := 0#32
  let c1 : Index := 1#32
  let c0_29 : Index := 0#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v89 : Index := Scalar.indexCast v13
  ![0, 1, 0, v89.toNat]
def k0_off5 (k0_t1 : Fin k0_t1_loop.trips) : Fin 3 → Nat :=
  let c0_31 : Index := 0#32
  let c1_32 : Index := 1#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v106 : Index := Scalar.indexCast v13
  ![0, 1, v106.toNat]
def k0_off6 (k0_t1 : Fin k0_t1_loop.trips) : Fin 4 → Nat :=
  let c0_46 : Index := 0#32
  let c2 : Index := 2#32
  let c0_47 : Index := 0#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v144 : Index := Scalar.indexCast v13
  ![0, 2, 0, v144.toNat]
def k0_off7 (k0_t1 : Fin k0_t1_loop.trips) : Fin 3 → Nat :=
  let c0_49 : Index := 0#32
  let c2_50 : Index := 2#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v161 : Index := Scalar.indexCast v13
  ![0, 2, v161.toNat]
def k0_off8 (k0_t1 : Fin k0_t1_loop.trips) : Fin 4 → Nat :=
  let c0_64 : Index := 0#32
  let c3 : Index := 3#32
  let c0_65 : Index := 0#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v199 : Index := Scalar.indexCast v13
  ![0, 3, 0, v199.toNat]
def k0_off9 (k0_t1 : Fin k0_t1_loop.trips) : Fin 3 → Nat :=
  let c0_67 : Index := 0#32
  let c3_68 : Index := 3#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v216 : Index := Scalar.indexCast v13
  ![0, 3, v216.toNat]
def k0_off10 (k0_t1 : Fin k0_t1_loop.trips) : Fin 4 → Nat :=
  let c0_82 : Index := 0#32
  let c4 : Index := 4#32
  let c0_83 : Index := 0#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v254 : Index := Scalar.indexCast v13
  ![0, 4, 0, v254.toNat]
def k0_off11 (k0_t1 : Fin k0_t1_loop.trips) : Fin 3 → Nat :=
  let c0_85 : Index := 0#32
  let c4_86 : Index := 4#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v271 : Index := Scalar.indexCast v13
  ![0, 4, v271.toNat]
def k0_off12 (k0_t1 : Fin k0_t1_loop.trips) : Fin 4 → Nat :=
  let c0_100 : Index := 0#32
  let c5 : Index := 5#32
  let c0_101 : Index := 0#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v309 : Index := Scalar.indexCast v13
  ![0, 5, 0, v309.toNat]
def k0_off13 (k0_t1 : Fin k0_t1_loop.trips) : Fin 3 → Nat :=
  let c0_103 : Index := 0#32
  let c5_104 : Index := 5#32
  let c0_i32_1 : BitVec 32 := 0#32
  let c1_i32 : BitVec 32 := 1#32
  let arg10 : BitVec 32 := Scf.iv c0_i32_1 c1_i32 k0_t1
  let c128_i32 : BitVec 32 := 128#32
  let v12 : BitVec 32 := Scalar.muli arg10 c128_i32
  let v13 : BitVec 32 := v12
  let v326 : Index := Scalar.indexCast v13
  ![0, 5, v326.toNat]
def k0_cond1 (i : grid0.Coords) (v1 : BitVec 32) : BitVec 1 :=
  let arg1 : BitVec 32 := BitVec.ofNat 32 (i 1).val
  let c1024_i32 : BitVec 32 := 1024#32
  let v4 : BitVec 32 := Scalar.muli arg1 c1024_i32
  let v5 : BitVec 1 := Scalar.cmpi .sge v4 v1
  let v6 : BitVec 32 := Scalar.extui v5
  let c0_i32 : BitVec 32 := 0#32
  let v7 : BitVec 1 := Scalar.cmpi .ne v6 c0_i32
  v7

def k0_cond2 (i : grid0.Coords) (v1 : BitVec 32) : BitVec 1 :=
  let arg1 : BitVec 32 := BitVec.ofNat 32 (i 1).val
  let c1024_i32 : BitVec 32 := 1024#32
  let v4 : BitVec 32 := Scalar.muli arg1 c1024_i32
  let v8 : BitVec 1 := Scalar.cmpi .slt v4 v1
  let v9 : BitVec 32 := Scalar.extui v8
  let c0_i32_0 : BitVec 32 := 0#32
  let v10 : BitVec 1 := Scalar.cmpi .ne v9 c0_i32_0
  v10

def cc0_transform_0 (k0_off1_inb : ∀ i : grid0.Coords, ∀ a, (k0_off1 i) a + S1.size a ≤ S12.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  let c0_i32_2 : BitVec 32 := 0#32
  ![arg0.toNat, c0_i32_0.toNat, c0_i32_1.toNat, v6.toNat]

def cc0_transform_1 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, c0_i32_0.toNat, v6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x6x160x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x80x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x6x160x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S12x16384x6x160 : Shape := ⟨4, ![12, 16384, 6, 160]⟩
abbrev S12x16384x6 : Shape := ⟨3, ![12, 16384, 6]⟩
abbrev S12 : Shape := ⟨1, ![12]⟩
abbrev S12x1 : Shape := ⟨2, ![12, 1]⟩
abbrev S80 : Shape := ⟨1, ![80]⟩
abbrev S_ : Shape := ⟨0, ![]⟩
abbrev S1x80 : Shape := ⟨2, ![1, 80]⟩
abbrev S12x80 : Shape := ⟨2, ![12, 80]⟩
abbrev S12x1x1x80 : Shape := ⟨4, ![12, 1, 1, 80]⟩
abbrev S1x16384x1x1 : Shape := ⟨4, ![1, 16384, 1, 1]⟩
abbrev S12x1x1x1 : Shape := ⟨4, ![12, 1, 1, 1]⟩
abbrev S12x16384x1x1 : Shape := ⟨4, ![12, 16384, 1, 1]⟩
abbrev S12x16384x1x80 : Shape := ⟨4, ![12, 16384, 1, 80]⟩
abbrev S12x16384x6x1 : Shape := ⟨4, ![12, 16384, 6, 1]⟩
abbrev S12x16384x6x80 : Shape := ⟨4, ![12, 16384, 6, 80]⟩

abbrev nBuf : Space → Nat
  | .hbm => 29
  | .vmem => 8
  | .smem => 0
  | _ => 0

abbrev bufTy : (tb : Table) → Fin (tcTables nBuf tb) → BufTy
  | .hbm, ⟨0, _⟩ => ⟨S12x16384x6x160, .i8⟩
  | .hbm, ⟨1, _⟩ => ⟨S12x16384x6, .f32⟩
  | .hbm, ⟨2, _⟩ => ⟨S12, .i32⟩
  | .hbm, ⟨3, _⟩ => ⟨S12, .i32⟩
  | .hbm, ⟨4, _⟩ => ⟨S12, .i32⟩
  | .hbm, ⟨5, _⟩ => ⟨S12, .f32⟩
  | .hbm, ⟨6, _⟩ => ⟨S12x1, .f32⟩
  | .hbm, ⟨7, _⟩ => ⟨S80, .f32⟩
  | .hbm, ⟨8, _⟩ => ⟨S_, .f32⟩
  | .hbm, ⟨9, _⟩ => ⟨S80, .f32⟩
  | .hbm, ⟨10, _⟩ => ⟨S80, .f32⟩
  | .hbm, ⟨11, _⟩ => ⟨S_, .f32⟩
  | .hbm, ⟨12, _⟩ => ⟨S80, .f32⟩
  | .hbm, ⟨13, _⟩ => ⟨S80, .f32⟩
  | .hbm, ⟨14, _⟩ => ⟨S80, .f32⟩
  | .hbm, ⟨15, _⟩ => ⟨S_, .f32⟩
  | .hbm, ⟨16, _⟩ => ⟨S80, .f32⟩
  | .hbm, ⟨17, _⟩ => ⟨S80, .f32⟩
  | .hbm, ⟨18, _⟩ => ⟨S_, .f32⟩
  | .hbm, ⟨19, _⟩ => ⟨S80, .f32⟩
  | .hbm, ⟨20, _⟩ => ⟨S80, .f32⟩
  | .hbm, ⟨21, _⟩ => ⟨S1x80, .f32⟩
  | .hbm, ⟨22, _⟩ => ⟨S12x80, .f32⟩
  | .hbm, ⟨23, _⟩ => ⟨S12x80, .f32⟩
  | .hbm, ⟨24, _⟩ => ⟨S12x80, .f32⟩
  | .hbm, ⟨25, _⟩ => ⟨S12x80, .f32⟩
  | .hbm, ⟨26, _⟩ => ⟨S12x80, .f32⟩
  | .hbm, ⟨27, _⟩ => ⟨S12x16384x6x160, .i8⟩
  | .hbm, ⟨28, _⟩ => ⟨S12x16384x6, .f32⟩
  | .local _ .vmem, ⟨0, _⟩ => ⟨S12x16384x6x160, .i8⟩
  | .local _ .vmem, ⟨1, _⟩ => ⟨S12x16384x6, .f32⟩
  | .local _ .vmem, ⟨2, _⟩ => ⟨S12, .i32⟩
  | .local _ .vmem, ⟨3, _⟩ => ⟨S12, .i32⟩
  | .local _ .vmem, ⟨4, _⟩ => ⟨S12x80, .f32⟩
  | .local _ .vmem, ⟨5, _⟩ => ⟨S12x80, .f32⟩
  | .local _ .vmem, ⟨6, _⟩ => ⟨S12x16384x6x160, .i8⟩
  | .local _ .vmem, ⟨7, _⟩ => ⟨S12x16384x6, .f32⟩
  | _, _ => ⟨S12x16384x6x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12x16384x6x160 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x16384x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x16384x6x160 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x16384x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Setup.lean ====
/-
  The launch around the kernel: what its buffers hold when the region is entered, the two prefetched
  tables read off the launch memory, the blocks the windows stage, the body as the pipeline calls it,
  and the condition the body branches on.
-/
module

public import proofs.«01_k».proof.Proof.Gen.Kernel.Launch
public import proofs.«01_k».proof.Proof.Gen.Kernel.Skeleton
public import proofs.«01_k».proof.Proof.Gen.Kernel.Loops
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Shift

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg2
abbrev htbM0_0 : tbM0_0.IsWhole := Memref.isWhole_whole _
abbrev tbM0_1 : Memref sig .tc .smem S12 .i32 := Memref.whole main_arg4
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The schedule of the outputs, and the body at a point -/

/-- Window 4 (result 0 (%24#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 3 (fun _ => rfl) (by decide)) (P := 1) (m := 0) (by decide) rfl t).mpr (Nat.mod_one _) : ∀ t : Fin grid0.N, Pipeline.Window.flushOf grid0 true cc0_transform_4 t = true)
/-- Window 5 (result 1 (%24#1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 2 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_kshift (grid0.coords t) (Memref.whole main_arg2) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c))⟩) h

/-! ## The body's branch condition -/

/-- The word of the length table that the body reads at a point. -/
abbrev lenWord (c : Dev nD) (i : grid0.Coords) (xt : TbBuf0 (F := F) c tbM0_0) : BitVec 32 :=
  tbM0_0.view.readAt (Elt F) (Rect.unit (s := S12) (k0_off1 i) S1.size (k0_off1_inb i)).toLoadRect xt (Shape.Idx.first (numel1_S1.symm ▸ Nat.one_pos))

/-- The word of the keep table that the body reads at a point. -/
abbrev keepWord (c : Dev nD) (i : grid0.Coords) (xt : TbBuf0 (F := F) c tbM0_1) : BitVec 32 :=
  tbM0_1.view.readAt (Elt F) (Rect.unit (s := S12) (k0_off1 i) S1.size (k0_off1_inb i)).toLoadRect xt (Shape.Idx.first (numel1_S1.symm ▸ Nat.one_pos))

/-- The two conditions of the body exclude each other: a block starts below the length or it does not. -/
theorem cond1_iff (i : grid0.Coords) (w : BitVec 32) : k0_cond1 i w = 1#1 ↔ ¬ k0_cond2 i w = 1#1 := by
  unfold k0_cond1 k0_cond2
  simp only [Scalar.cmpi, Scalar.extui, Scalar.muli, IntOp.cmpi]
  generalize IntOp.muli (BitVec.ofNat 32 (i 1).val) 1024#32 = a
  have h : BitVec.sle w a = !BitVec.slt a w := by simp [BitVec.sle_eq_not_slt]
  rw [h]
  cases BitVec.slt a w <;> decide

/-! ## The kernel body on any staging memrefs: a subtype the run finds -/

/-- One staging buffer of output window 4, through which its contents are stated (`View.read_writes_of_cover`: the
    choice does not matter). -/
abbrev VO0_4 : View sig .tc .vmem S1x6x160x1024 .i8 := (Memref.whole cc0_stg4_0 : Memref sig .tc .vmem S1x6x160x1024 .i8).view
/-- One staging buffer of output window 5, through which its contents are stated (`View.read_writes_of_cover`: the
    choice does not matter). -/
abbrev VO0_5 : View sig .tc .vmem S1x6x1024 .f32 := (Memref.whole cc0_stg5_0 : Memref sig .tc .vmem S1x6x1024 .f32).view
/-- Each window's current staging memref at point `t`, spelled as the pipeline passes it (`bodyAt0`), and its wholeness. -/
abbrev ms0_0 (hO : Ok m) (t : Fin (cfgM m hO).N) : Memref sig .tc .vmem S1x6x160x1024 .i8 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x6x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x80x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x80x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x6x160x1024 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x6x1024 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.Kernel.Shift

end
-- ==== Proof.Kernel.RunCompute.lean ====
/- The body's run at a point whose block starts below the row's length: the loop over the lane chunks runs. -/
module

public import proofs.«01_k».proof.Proof.Kernel.Setup

@[expose] public section

-- membership in a rectangle of production extents (`View.cover_of_tiled`): the elaborator's structural look
-- recurses once per coordinate of the long axes
set_option maxRecDepth 16384

noncomputable section

namespace Cert.Kernel.Shift

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in the two output buffers at a point whose block starts below the length, as pieces (last
    first), with the proof that on whole staging memrefs — the inputs' at
    their contents, the outputs' at anything — the body runs to the continuation holding the inputs' as they were and each
    output's buffer with its pieces written. The body is run over its skeleton (`sl_exec`), each `scf.if` decided by the
    hypotheses; the pieces are the witness that run finds. -/
noncomputable def runCompute (c : Dev nD) (i : grid0.Coords) (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole) (arg8 : Memref sig .tc .vmem S1x6x160x1024 .i8) (harg8 : arg8.IsWhole) (arg9 : Memref sig .tc .vmem S1x6x1024 .f32) (harg9 : arg9.IsWhole)
    (x0 : Vec F S1x6x160x1024 .i8) (x1 : Vec F S1x6x1024 .f32) (x2 : Vec F S1x80x128 .f32) (x3 : Vec F S1x80x128 .f32) (xt0 : TbBuf0 (F := F) c tbM0_0) (xt1 : TbBuf0 (F := F) c tbM0_1) (hc1 : ¬ k0_cond1 i (lenWord c i xt0) = 1#1) (hc2 : k0_cond2 i (lenWord c i xt0) = 1#1) :
    Σ' (L4 : List (View.Piece (Elt F) S1x6x160x1024 .i8)), { L5 : List (View.Piece (Elt F) S1x6x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_kshift i tbM0_0 htbM0_0 tbM0_1 htbM0_1 arg4 harg4 arg5 harg5 arg6 harg6 arg7 harg7 arg8 harg8 arg9 harg9) K } := by
  refine ⟨?_, ?_, fun E K => ?run⟩
  case run =>
    simp only [cc0_kshift_eq_skeleton]; unfold cc0_kshift_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, HT0, HT1, Hk⟩
    obtain rfl := harg4.eq_unread hf0; obtain rfl := harg5.eq_unread hf1; obtain rfl := harg6.eq_unread hf2; obtain rfl := harg7.eq_unread hf3
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [H5]; · iexists _; iexact H5
    isplitl [HT0]; · iexact HT0
    iexact HT1

end Cert.Kernel.Shift

end
-- ==== Proof.Kernel.RunSkip.lean ====
/- The body's run at a point whose block starts at or past the row's length: zeros and ones are stored. -/
module

public import proofs.«01_k».proof.Proof.Kernel.RunCompute

@[expose] public section

-- membership in a rectangle of production extents (`View.cover_of_tiled`): the elaborator's structural look
-- recurses once per coordinate of the long axes
set_option maxRecDepth 16384

noncomputable section

namespace Cert.Kernel.Shift

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in the two output buffers at a point whose block starts at or past the length, as pieces,
    with the proof that on whole staging memrefs — the inputs' at
    their contents, the outputs' at anything — the body runs to the continuation holding the inputs' as they were and each
    output's buffer with its pieces written. The body is run over its skeleton (`sl_exec`), each `scf.if` decided by the
    hypotheses; the pieces are the witness that run finds. -/
noncomputable def runSkip (c : Dev nD) (i : grid0.Coords) (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole) (arg8 : Memref sig .tc .vmem S1x6x160x1024 .i8) (harg8 : arg8.IsWhole) (arg9 : Memref sig .tc .vmem S1x6x1024 .f32) (harg9 : arg9.IsWhole)
    (x0 : Vec F S1x6x160x1024 .i8) (x1 : Vec F S1x6x1024 .f32) (x2 : Vec F S1x80x128 .f32) (x3 : Vec F S1x80x128 .f32) (xt0 : TbBuf0 (F := F) c tbM0_0) (xt1 : TbBuf0 (F := F) c tbM0_1) (hc1 : k0_cond1 i (lenWord c i xt0) = 1#1) (hc2 : ¬ k0_cond2 i (lenWord c i xt0) = 1#1) :
    Σ' (L4 : List (View.Piece (Elt F) S1x6x160x1024 .i8)), { L5 : List (View.Piece (Elt F) S1x6x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_kshift i tbM0_0 htbM0_0 tbM0_1 htbM0_1 arg4 harg4 arg5 harg5 arg6 harg6 arg7 harg7 arg8 harg8 arg9 harg9) K } := by
  refine ⟨?_, ?_, fun E K => ?run⟩
  case run =>
    simp only [cc0_kshift_eq_skeleton]; unfold cc0_kshift_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, HT0, HT1, Hk⟩
    obtain rfl := harg4.eq_unread hf0; obtain rfl := harg5.eq_unread hf1; obtain rfl := harg6.eq_unread hf2; obtain rfl := harg7.eq_unread hf3
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [H5]; · iexists _; iexact H5
    isplitl [HT0]; · iexact HT0
    iexact HT1

end Cert.Kernel.Shift

end
-- ==== Proof.Kernel.Cover.lean ====
/- What the body leaves in each output buffer, in either case: the pieces its run writes cover the buffer, so the contents
   before it do not matter. -/
module

public import proofs.«01_k».proof.Proof.Kernel.RunSkip

@[expose] public section

-- membership in a rectangle of production extents (`View.cover_of_tiled`): the elaborator's structural look
-- recurses once per coordinate of the long axes
set_option maxRecDepth 16384

noncomputable section

namespace Cert.Kernel.Shift

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole) (arg8 : Memref sig .tc .vmem S1x6x160x1024 .i8) (harg8 : arg8.IsWhole) (arg9 : Memref sig .tc .vmem S1x6x1024 .f32) (harg9 : arg9.IsWhole)
    (x0 : Vec F S1x6x160x1024 .i8) (x1 : Vec F S1x6x1024 .f32) (x2 : Vec F S1x80x128 .f32) (x3 : Vec F S1x80x128 .f32) (xt0 : TbBuf0 (F := F) c tbM0_0) (xt1 : TbBuf0 (F := F) c tbM0_1)

/-- The pieces the loop writes into the codes' buffer tile its block, so they cover it. -/
theorem coverCompute_4 (hc1 : ¬ k0_cond1 i (lenWord c i xt0) = 1#1) (hc2 : k0_cond2 i (lenWord c i xt0) = 1#1) (y : S1x6x160x1024.Idx) : ∃ pc ∈ (runCompute c i arg4 harg4 arg5 harg5 arg6 harg6 arg7 harg7 arg8 harg8 arg9 harg9 x0 x1 x2 x3 xt0 xt1 hc1 hc2).1, y ∈ pc.1.set :=
  View.cover_of_tiledL (runCompute c i arg4 harg4 arg5 harg5 arg6 harg6 arg7 harg7 arg8 harg8 arg9 harg9 x0 x1 x2 x3 xt0 xt1 hc1 hc2).1 S1x1x160x128.size (by sl_kernel_rfl) y

/-- What the loop leaves in the codes' buffer: the pieces read back over arbitrary contents. -/
def outCompute_4 (hc1 : ¬ k0_cond1 i (lenWord c i xt0) = 1#1) (hc2 : k0_cond2 i (lenWord c i xt0) = 1#1) : Vec F S1x6x160x1024 .i8 :=
  VO0_4.read (Elt F) (VO0_4.writes (Elt F) VO0_4.junk (runCompute c i arg4 harg4 arg5 harg5 arg6 harg6 arg7 harg7 arg8 harg8 arg9 harg9 x0 x1 x2 x3 xt0 xt1 hc1 hc2).1)

/-- The pieces the loop writes into the scales' buffer tile its block, so they cover it. -/
theorem coverCompute_5 (hc1 : ¬ k0_cond1 i (lenWord c i xt0) = 1#1) (hc2 : k0_cond2 i (lenWord c i xt0) = 1#1) (y : S1x6x1024.Idx) : ∃ pc ∈ (runCompute c i arg4 harg4 arg5 harg5 arg6 harg6 arg7 harg7 arg8 harg8 arg9 harg9 x0 x1 x2 x3 xt0 xt1 hc1 hc2).2.1, y ∈ pc.1.set :=
  View.cover_of_tiledL (runCompute c i arg4 harg4 arg5 harg5 arg6 harg6 arg7 harg7 arg8 harg8 arg9 harg9 x0 x1 x2 x3 xt0 xt1 hc1 hc2).2.1 S1x1x128.size (by sl_kernel_rfl) y

/-- What the loop leaves in the scales' buffer: the pieces read back over arbitrary contents. -/
def outCompute_5 (hc1 : ¬ k0_cond1 i (lenWord c i xt0) = 1#1) (hc2 : k0_cond2 i (lenWord c i xt0) = 1#1) : Vec F S1x6x1024 .f32 :=
  VO0_5.read (Elt F) (VO0_5.writes (Elt F) VO0_5.junk (runCompute c i arg4 harg4 arg5 harg5 arg6 harg6 arg7 harg7 arg8 harg8 arg9 harg9 x0 x1 x2 x3 xt0 xt1 hc1 hc2).2.1)

/-- The pieces the two whole-block stores writes into the codes' buffer tile its block, so they cover it. -/
theorem coverSkip_4 (hc1 : k0_cond1 i (lenWord c i xt0) = 1#1) (hc2 : ¬ k0_cond2 i (lenWord c i xt0) = 1#1) (y : S1x6x160x1024.Idx) : ∃ pc ∈ (runSkip c i arg4 harg4 arg5 harg5 arg6 harg6 arg7 harg7 arg8 harg8 arg9 harg9 x0 x1 x2 x3 xt0 xt1 hc1 hc2).1, y ∈ pc.1.set :=
  View.cover_of_tiledL (runSkip c i arg4 harg4 arg5 harg5 arg6 harg6 arg7 harg7 arg8 harg8 arg9 harg9 x0 x1 x2 x3 xt0 xt1 hc1 hc2).1 S1x6x160x1024.size (by sl_kernel_rfl) y

/-- What the two whole-block stores leaves in the codes' buffer: the pieces read back over arbitrary contents. -/
def outSkip_4 (hc1 : k0_cond1 i (lenWord c i xt0) = 1#1) (hc2 : ¬ k0_cond2 i (lenWord c i xt0) = 1#1) : Vec F S1x6x160x1024 .i8 :=
  VO0_4.read (Elt F) (VO0_4.writes (Elt F) VO0_4.junk (runSkip c i arg4 harg4 arg5 harg5 arg6 harg6 arg7 harg7 arg8 harg8 arg9 harg9 x0 x1 x2 x3 xt0 xt1 hc1 hc2).1)

/-- The pieces the two whole-block stores writes into the scales' buffer tile its block, so they cover it. -/
theorem coverSkip_5 (hc1 : k0_cond1 i (lenWord c i xt0) = 1#1) (hc2 : ¬ k0_cond2 i (lenWord c i xt0) = 1#1) (y : S1x6x1024.Idx) : ∃ pc ∈ (runSkip c i arg4 harg4 arg5 harg5 arg6 harg6 arg7 harg7 arg8 harg8 arg9 harg9 x0 x1 x2 x3 xt0 xt1 hc1 hc2).2.1, y ∈ pc.1.set :=
  View.cover_of_tiledL (runSkip c i arg4 harg4 arg5 harg5 arg6 harg6 arg7 harg7 arg8 harg8 arg9 harg9 x0 x1 x2 x3 xt0 xt1 hc1 hc2).2.1 S1x6x1024.size (by sl_kernel_rfl) y

/-- What the two whole-block stores leaves in the scales' buffer: the pieces read back over arbitrary contents. -/
def outSkip_5 (hc1 : k0_cond1 i (lenWord c i xt0) = 1#1) (hc2 : ¬ k0_cond2 i (lenWord c i xt0) = 1#1) : Vec F S1x6x1024 .f32 :=
  VO0_5.read (Elt F) (VO0_5.writes (Elt F) VO0_5.junk (runSkip c i arg4 harg4 arg5 harg5 arg6 harg6 arg7 harg7 arg8 harg8 arg9 harg9 x0 x1 x2 x3 xt0 xt1 hc1 hc2).2.1)

end Cert.Kernel.Shift

end
-- ==== Proof.Kernel.Body.lean ====
/- The body obligation of the pipeline: at every grid point the body takes the input blocks to what `outsAt0` says. -/
module

public import proofs.«01_k».proof.Proof.Kernel.Cover

@[expose] public section

-- membership in a rectangle of production extents (`View.cover_of_tiled`): the elaborator's structural look
-- recurses once per coordinate of the long axes
set_option maxRecDepth 16384

noncomputable section

namespace Cert.Kernel.Shift

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the block starts below the length the first condition fails, -/
theorem not_cond1 (i : grid0.Coords) (w : BitVec 32) (h : k0_cond2 i w = 1#1) : ¬ k0_cond1 i w = 1#1 :=
  fun h1 => (cond1_iff i w).1 h1 h
/-- and where it does not, the first condition holds. -/
theorem cond1_of (i : grid0.Coords) (w : BitVec 32) (h : ¬ k0_cond2 i w = 1#1) : k0_cond1 i w = 1#1 := (cond1_iff i w).2 h

/-! ## What the outputs hold after each point -/

/-- What the two output buffers hold after the body at point `t`: the loop's contents where the block starts below the
    length, the constants elsewhere. -/
def outsAt0 (hO : Ok m) (c : Dev nD) (t : Fin (cfgM m hO).N) : Vec F S1x6x160x1024 .i8 × Vec F S1x6x1024 .f32 :=
  if h : k0_cond2 (grid0.coords t) (lenWord c (grid0.coords t) (tbl m 0)) = 1#1 then
    (outCompute_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ h) h, outCompute_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ h) h)
  else
    (outSkip_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ h) h, outSkip_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ h) h)

/-- `outsAt0` at a point whose block starts below the length. -/
theorem outsAt0_compute (hO : Ok m) (c : Dev nD) (t : Fin (cfgM m hO).N) (h : k0_cond2 (grid0.coords t) (lenWord c (grid0.coords t) (tbl m 0)) = 1#1) :
    outsAt0 m hO c t = (outCompute_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ h) h, outCompute_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ h) h) := by
  unfold outsAt0; exact (dif_pos h).trans rfl

/-- `outsAt0` at a point whose block starts at or past the length. -/
theorem outsAt0_skip (hO : Ok m) (c : Dev nD) (t : Fin (cfgM m hO).N) (h : ¬ k0_cond2 (grid0.coords t) (lenWord c (grid0.coords t) (tbl m 0)) = 1#1) :
    outsAt0 m hO c t = (outSkip_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ h) h, outSkip_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ h) h) := by
  unfold outsAt0; exact (dif_neg h).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t).1
    | ⟨5, _⟩ => (outsAt0 m hO c t).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t).1 := by dsimp only [dats]; try rfl
theorem after0_5 (hO : Ok m) (c : Dev nD) (t : Fin (cfgM m hO).N) : (dats m hO 0 c).after 5 t = (outsAt0 m hO c t).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h : k0_cond2 (grid0.coords t) (lenWord c (grid0.coords t) (tbl m 0)) = 1#1
  · rw [outsAt0_compute m hO c t h]
    unfold outCompute_4 outCompute_5; (try dsimp only)
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((runCompute c (grid0.coords t) _ _ _ _ _ _ _ _ _ _ _ _ (iblk m hO c 0 t) (iblk m hO c 1 t) (iblk m hO c 2 t) (iblk m hO c 3 t) (tbl m 0) (tbl m 1) (not_cond1 _ _ h) h).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HT0]; · iexact HT0
    isplitl [HT1]; · iexact HT1
    iintro ⟨H0, H1, H2, H3, ⟨%e4, H4⟩, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverCompute_4 c _ _ _ _ _ _ _ _ _ _ _ _ _ _ _ _ _ _ _ _ _)
    unfold owns; iexists _; isplitr
    swap; · iexact H5
    ipureintro; exact View.read_writes_of_cover _ _ _ _ _ (coverCompute_5 c _ _ _ _ _ _ _ _ _ _ _ _ _ _ _ _ _ _ _ _ _)
  · rw [outsAt0_skip m hO c t h]
    unfold outSkip_4 outSkip_5; (try dsimp only)
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((runSkip c (grid0.coords t) _ _ _ _ _ _ _ _ _ _ _ _ (iblk m hO c 0 t) (iblk m hO c 1 t) (iblk m hO c 2 t) (iblk m hO c 3 t) (tbl m 0) (tbl m 1) (cond1_of _ _ h) h).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HT0]; · iexact HT0
    isplitl [HT1]; · iexact HT1
    iintro ⟨H0, H1, H2, H3, ⟨%e4, H4⟩, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverSkip_4 c _ _ _ _ _ _ _ _ _ _ _ _ _ _ _ _ _ _ _ _ _)
    unfold owns; iexists _; isplitr
    swap; · iexact H5
    ipureintro; exact View.read_writes_of_cover _ _ _ _ _ (coverSkip_5 c _ _ _ _ _ _ _ _ _ _ _ _ _ _ _ _ _ _ _ _ _)
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  -- whether the table makes an output window idle does not matter: its block is written back at every point
  have f4 : ((cfgM m hO).win (4 : Fin 6)).flush t = true := flush0_4 (adm m hO) t
  have f5 : ((cfgM m hO).win (5 : Fin 6)).flush t = true := flush0_5 (adm m hO) t
  rw [f4, f5]
  generalize (cfgM m hO).idle (4 : Fin 6) ((cfgM m hO).grid.coords t) = b4
  generalize (cfgM m hO).idle (5 : Fin 6) ((cfgM m hO).grid.coords t) = b5
  cases b4 <;> cases b5 <;> exact .rfl

end Cert.Kernel.Shift

end
-- ==== Proof.Kernel.Run.lean ====
/- The run of the whole program and its frame. -/
module

public import proofs.«01_k».proof.Proof.Kernel.Body
public import Idealize.ShloMosaic.Lib.Claim

@[expose] public section

-- membership in a rectangle of production extents (`View.cover_of_tiled`): the elaborator's structural look
-- recurses once per coordinate of the long axes
set_option maxRecDepth 16384

noncomputable section

namespace Cert.Kernel.Shift

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: the arguments end unchanged and every counter is zero, at any values. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel.Shift

end
-- ==== Proof.Kernel.Tables.lean ====
/- The side condition of the prefetched tables, for every contents of them: the index maps that read the length table clamp
   the block index between 0 and the grid's own, so every block lies inside its array. -/
module

public import proofs.«01_k».proof.Proof.Kernel.Setup

@[expose] public section

set_option maxRecDepth 16384

noncomputable section

namespace Cert.Kernel.Shift

open Cert.Kernel.Gen
open Idealize.ShloMosaic Idealize.ShloMosaic.TcCoe Idealize.ShloMosaic.Tactic

variable {F : FTy → Type} [FloatOps F]

/-- A word clamped below by zero and above by a small number is at most that number. -/
theorem clamp_le (n : Nat) (hn : n < 16) (v : BitVec 32) :
    (Scalar.minsi (BitVec.ofNat 32 n) (Scalar.maxsi v 0#32)).toNat ≤ n := by
  have h0 : (0#32).toInt = 0 := by decide
  have hi : (BitVec.ofNat 32 n).toInt = n := by
    rw [BitVec.toInt_eq_toNat_cond, BitVec.toNat_ofNat]; split <;> omega
  have hN : (BitVec.ofNat 32 n).toNat = n := by rw [BitVec.toNat_ofNat]; omega
  have key : ∀ w : BitVec 32, 0 ≤ w.toInt → w.toInt ≤ n → w.toNat ≤ n := by
    intro w hw hle
    rw [BitVec.toInt_eq_toNat_cond] at hw hle
    split at hw <;> split at hle <;> omega
  unfold Scalar.minsi Scalar.maxsi IntOp.minsi IntOp.maxsi
  split <;> split <;> rename_i h1 h2 <;> simp only [BitVec.slt_iff_toInt_lt] at h1 h2
  all_goals first | exact hN.le | (apply key <;> omega)

/-- The index of the codes' input block at a grid point is at most the point's own along the tokens. -/
theorem transform_0_le (pf : pre0.Contents (Elt F)) (i : grid0.Coords) :
    cc0_transform_0 k0_off1_inb numel1_S1 pf i 3 ≤ (i 1).val := by
  have h1 : (i 1).val < 16 := (i 1).isLt
  simp only [cc0_transform_0, Matrix.cons_val]
  exact clamp_le (i 1).val h1 _
/-- The same for the scales' input block. -/
theorem transform_1_le (pf : pre0.Contents (Elt F)) (i : grid0.Coords) :
    cc0_transform_1 k0_off1_inb numel1_S1 pf i 2 ≤ (i 1).val := by
  have h1 : (i 1).val < 16 := (i 1).isLt
  simp only [cc0_transform_1, Matrix.cons_val]
  exact clamp_le (i 1).val h1 _

theorem batch_toNat (i : grid0.Coords) : (BitVec.ofNat 32 (i 0).val).toNat = (i 0).val := by
  have := (i 0).isLt
  rw [BitVec.toNat_ofNat]; exact Nat.mod_eq_of_lt (lt_trans this (by decide))

/-- The side condition of the tables holds whatever they hold. -/
theorem ok_all (pf : pre0.Contents (Elt F)) : ok0 pf := by
  refine ⟨fun i => ⟨fun a => ?_, .inr (Affine.block_words_dvd (of_decide_eq_true rfl) (by decide))⟩, fun i => ⟨fun a => ?_, .inl rfl⟩⟩
  · have h0 : (i 0).val < 12 := (i 0).isLt
    have h1 : (i 1).val < 16 := (i 1).isLt
    have h3 := transform_0_le pf i
    match a with
    | 0 => show ((BitVec.ofNat 32 (i 0).val).toNat + 1) * 1 ≤ 12; rw [batch_toNat]; omega
    | 1 => show (0 + 1) * 6 ≤ 6; omega
    | 2 => show (0 + 1) * 160 ≤ 160; omega
    | 3 => show (_ + 1) * 1024 ≤ 16384; omega
  · have h0 : (i 0).val < 12 := (i 0).isLt
    have h1 : (i 1).val < 16 := (i 1).isLt
    have h3 := transform_1_le pf i
    match a with
    | 0 => show ((BitVec.ofNat 32 (i 0).val).toNat + 1) * 1 ≤ 12; rw [batch_toNat]; omega
    | 1 => show (0 + 1) * 6 ≤ 6; omega
    | 2 => show (_ + 1) * 1024 ≤ 16384; omega

/-- So the pipeline's condition holds from every memory. -/
theorem ok (m : (ℓ : Loc nD τ sig) → Buf (Elt F) ℓ) : Ok m := ok_all _

end Cert.Kernel.Shift

end
-- ==== Proof.KernelIdeal.Setup.lean ====
/-
  The launch around the kernel: what its buffers hold when the region is entered, the two prefetched
  tables read off the launch memory, the blocks the windows stage, the body as the pipeline calls it,
  and the condition the body branches on.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Shift

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg2
abbrev htbM0_0 : tbM0_0.IsWhole := Memref.isWhole_whole _
abbrev tbM0_1 : Memref sig .tc .smem S12 .i32 := Memref.whole main_arg4
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The schedule of the outputs, and the body at a point -/

/-- Window 4 (result 0 (%24#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 3 (fun _ => rfl) (by decide)) (P := 1) (m := 0) (by decide) rfl t).mpr (Nat.mod_one _) : ∀ t : Fin grid0.N, Pipeline.Window.flushOf grid0 true cc0_transform_4 t = true)
/-- Window 5 (result 1 (%24#1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 2 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_kshift (grid0.coords t) (Memref.whole main_arg2) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c))⟩) h

/-! ## The body's branch condition -/

/-- The word of the length table that the body reads at a point. -/
abbrev lenWord (c : Dev nD) (i : grid0.Coords) (xt : TbBuf0 (F := F) c tbM0_0) : BitVec 32 :=
  tbM0_0.view.readAt (Elt F) (Rect.unit (s := S12) (k0_off1 i) S1.size (k0_off1_inb i)).toLoadRect xt (Shape.Idx.first (numel1_S1.symm ▸ Nat.one_pos))

/-- The word of the keep table that the body reads at a point. -/
abbrev keepWord (c : Dev nD) (i : grid0.Coords) (xt : TbBuf0 (F := F) c tbM0_1) : BitVec 32 :=
  tbM0_1.view.readAt (Elt F) (Rect.unit (s := S12) (k0_off1 i) S1.size (k0_off1_inb i)).toLoadRect xt (Shape.Idx.first (numel1_S1.symm ▸ Nat.one_pos))

/-- The two conditions of the body exclude each other: a block starts below the length or it does not. -/
theorem cond1_iff (i : grid0.Coords) (w : BitVec 32) : k0_cond1 i w = 1#1 ↔ ¬ k0_cond2 i w = 1#1 := by
  unfold k0_cond1 k0_cond2
  simp only [Scalar.cmpi, Scalar.extui, Scalar.muli, IntOp.cmpi]
  generalize IntOp.muli (BitVec.ofNat 32 (i 1).val) 1024#32 = a
  have h : BitVec.sle w a = !BitVec.slt a w := by simp [BitVec.sle_eq_not_slt]
  rw [h]
  cases BitVec.slt a w <;> decide

/-! ## The kernel body on any staging memrefs: a subtype the run finds -/

/-- One staging buffer of output window 4, through which its contents are stated (`View.read_writes_of_cover`: the
    choice does not matter). -/
abbrev VO0_4 : View sig .tc .vmem S1x6x160x1024 .i8 := (Memref.whole cc0_stg4_0 : Memref sig .tc .vmem S1x6x160x1024 .i8).view
/-- One staging buffer of output window 5, through which its contents are stated (`View.read_writes_of_cover`: the
    choice does not matter). -/
abbrev VO0_5 : View sig .tc .vmem S1x6x1024 .f32 := (Memref.whole cc0_stg5_0 : Memref sig .tc .vmem S1x6x1024 .f32).view
/-- Each window's current staging memref at point `t`, spelled as the pipeline passes it (`bodyAt0`), and its wholeness. -/
abbrev ms0_0 (hO : Ok m) (t : Fin (cfgM m hO).N) : Memref sig .tc .vmem S1x6x160x1024 .i8 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x6x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x80x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x80x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x6x160x1024 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x6x1024 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.KernelIdeal.Shift

end
-- ==== Proof.KernelIdeal.RunCompute.lean ====
/- The body's run at a point whose block starts below the row's length: the loop over the lane chunks runs. -/
module

public import proofs.«01_k».proof.Proof.KernelIdeal.Setup

@[expose] public section

-- membership in a rectangle of production extents (`View.cover_of_tiled`): the elaborator's structural look
-- recurses once per coordinate of the long axes
set_option maxRecDepth 16384

noncomputable section

namespace Cert.KernelIdeal.Shift

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in the two output buffers at a point whose block starts below the length, as pieces (last
    first), with the proof that on whole staging memrefs — the inputs' at
    their contents, the outputs' at anything — the body runs to the continuation holding the inputs' as they were and each
    output's buffer with its pieces written. The body is run over its skeleton (`sl_exec`), each `scf.if` decided by the
    hypotheses; the pieces are the witness that run finds. -/
noncomputable def runCompute (c : Dev nD) (i : grid0.Coords) (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole) (arg8 : Memref sig .tc .vmem S1x6x160x1024 .i8) (harg8 : arg8.IsWhole) (arg9 : Memref sig .tc .vmem S1x6x1024 .f32) (harg9 : arg9.IsWhole)
    (x0 : Vec F S1x6x160x1024 .i8) (x1 : Vec F S1x6x1024 .f32) (x2 : Vec F S1x80x128 .f32) (x3 : Vec F S1x80x128 .f32) (xt0 : TbBuf0 (F := F) c tbM0_0) (xt1 : TbBuf0 (F := F) c tbM0_1) (hc1 : ¬ k0_cond1 i (lenWord c i xt0) = 1#1) (hc2 : k0_cond2 i (lenWord c i xt0) = 1#1) :
    Σ' (L4 : List (View.Piece (Elt F) S1x6x160x1024 .i8)), { L5 : List (View.Piece (Elt F) S1x6x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_kshift i tbM0_0 htbM0_0 tbM0_1 htbM0_1 arg4 harg4 arg5 harg5 arg6 harg6 arg7 harg7 arg8 harg8 arg9 harg9) K } := by
  refine ⟨?_, ?_, fun E K => ?run⟩
  case run =>
    simp only [cc0_kshift_eq_skeleton]; unfold cc0_kshift_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, HT0, HT1, Hk⟩
    obtain rfl := harg4.eq_unread hf0; obtain rfl := harg5.eq_unread hf1; obtain rfl := harg6.eq_unread hf2; obtain rfl := harg7.eq_unread hf3
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [H5]; · iexists _; iexact H5
    isplitl [HT0]; · iexact HT0
    iexact HT1

end Cert.KernelIdeal.Shift

end
-- ==== Proof.KernelIdeal.RunSkip.lean ====
/- The body's run at a point whose block starts at or past the row's length: zeros and ones are stored. -/
module

public import proofs.«01_k».proof.Proof.KernelIdeal.RunCompute

@[expose] public section

-- membership in a rectangle of production extents (`View.cover_of_tiled`): the elaborator's structural look
-- recurses once per coordinate of the long axes
set_option maxRecDepth 16384

noncomputable section

namespace Cert.KernelIdeal.Shift

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in the two output buffers at a point whose block starts at or past the length, as pieces,
    with the proof that on whole staging memrefs — the inputs' at
    their contents, the outputs' at anything — the body runs to the continuation holding the inputs' as they were and each
    output's buffer with its pieces written. The body is run over its skeleton (`sl_exec`), each `scf.if` decided by the
    hypotheses; the pieces are the witness that run finds. -/
noncomputable def runSkip (c : Dev nD) (i : grid0.Coords) (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole) (arg8 : Memref sig .tc .vmem S1x6x160x1024 .i8) (harg8 : arg8.IsWhole) (arg9 : Memref sig .tc .vmem S1x6x1024 .f32) (harg9 : arg9.IsWhole)
    (x0 : Vec F S1x6x160x1024 .i8) (x1 : Vec F S1x6x1024 .f32) (x2 : Vec F S1x80x128 .f32) (x3 : Vec F S1x80x128 .f32) (xt0 : TbBuf0 (F := F) c tbM0_0) (xt1 : TbBuf0 (F := F) c tbM0_1) (hc1 : k0_cond1 i (lenWord c i xt0) = 1#1) (hc2 : ¬ k0_cond2 i (lenWord c i xt0) = 1#1) :
    Σ' (L4 : List (View.Piece (Elt F) S1x6x160x1024 .i8)), { L5 : List (View.Piece (Elt F) S1x6x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_kshift i tbM0_0 htbM0_0 tbM0_1 htbM0_1 arg4 harg4 arg5 harg5 arg6 harg6 arg7 harg7 arg8 harg8 arg9 harg9) K } := by
  refine ⟨?_, ?_, fun E K => ?run⟩
  case run =>
    simp only [cc0_kshift_eq_skeleton]; unfold cc0_kshift_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, HT0, HT1, Hk⟩
    obtain rfl := harg4.eq_unread hf0; obtain rfl := harg5.eq_unread hf1; obtain rfl := harg6.eq_unread hf2; obtain rfl := harg7.eq_unread hf3
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [H5]; · iexists _; iexact H5
    isplitl [HT0]; · iexact HT0
    iexact HT1

end Cert.KernelIdeal.Shift

end
-- ==== Proof.KernelIdeal.Cover.lean ====
/- What the body leaves in each output buffer, in either case: the pieces its run writes cover the buffer, so the contents
   before it do not matter. -/
module

public import proofs.«01_k».proof.Proof.KernelIdeal.RunSkip

@[expose] public section

-- membership in a rectangle of production extents (`View.cover_of_tiled`): the elaborator's structural look
-- recurses once per coordinate of the long axes
set_option maxRecDepth 16384

noncomputable section

namespace Cert.KernelIdeal.Shift

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole) (arg8 : Memref sig .tc .vmem S1x6x160x1024 .i8) (harg8 : arg8.IsWhole) (arg9 : Memref sig .tc .vmem S1x6x1024 .f32) (harg9 : arg9.IsWhole)
    (x0 : Vec F S1x6x160x1024 .i8) (x1 : Vec F S1x6x1024 .f32) (x2 : Vec F S1x80x128 .f32) (x3 : Vec F S1x80x128 .f32) (xt0 : TbBuf0 (F := F) c tbM0_0) (xt1 : TbBuf0 (F := F) c tbM0_1)

/-- The pieces the loop writes into the codes' buffer tile its block, so they cover it. -/
theorem coverCompute_4 (hc1 : ¬ k0_cond1 i (lenWord c i xt0) = 1#1) (hc2 : k0_cond2 i (lenWord c i xt0) = 1#1) (y : S1x6x160x1024.Idx) : ∃ pc ∈ (runCompute c i arg4 harg4 arg5 harg5 arg6 harg6 arg7 harg7 arg8 harg8 arg9 harg9 x0 x1 x2 x3 xt0 xt1 hc1 hc2).1, y ∈ pc.1.set :=
  View.cover_of_tiledL (runCompute c i arg4 harg4 arg5 harg5 arg6 harg6 arg7 harg7 arg8 harg8 arg9 harg9 x0 x1 x2 x3 xt0 xt1 hc1 hc2).1 S1x1x160x128.size (by sl_kernel_rfl) y

/-- What the loop leaves in the codes' buffer: the pieces read back over arbitrary contents. -/
def outCompute_4 (hc1 : ¬ k0_cond1 i (lenWord c i xt0) = 1#1) (hc2 : k0_cond2 i (lenWord c i xt0) = 1#1) : Vec F S1x6x160x1024 .i8 :=
  VO0_4.read (Elt F) (VO0_4.writes (Elt F) VO0_4.junk (runCompute c i arg4 harg4 arg5 harg5 arg6 harg6 arg7 harg7 arg8 harg8 arg9 harg9 x0 x1 x2 x3 xt0 xt1 hc1 hc2).1)

/-- The pieces the loop writes into the scales' buffer tile its block, so they cover it. -/
theorem coverCompute_5 (hc1 : ¬ k0_cond1 i (lenWord c i xt0) = 1#1) (hc2 : k0_cond2 i (lenWord c i xt0) = 1#1) (y : S1x6x1024.Idx) : ∃ pc ∈ (runCompute c i arg4 harg4 arg5 harg5 arg6 harg6 arg7 harg7 arg8 harg8 arg9 harg9 x0 x1 x2 x3 xt0 xt1 hc1 hc2).2.1, y ∈ pc.1.set :=
  View.cover_of_tiledL (runCompute c i arg4 harg4 arg5 harg5 arg6 harg6 arg7 harg7 arg8 harg8 arg9 harg9 x0 x1 x2 x3 xt0 xt1 hc1 hc2).2.1 S1x1x128.size (by sl_kernel_rfl) y

/-- What the loop leaves in the scales' buffer: the pieces read back over arbitrary contents. -/
def outCompute_5 (hc1 : ¬ k0_cond1 i (lenWord c i xt0) = 1#1) (hc2 : k0_cond2 i (lenWord c i xt0) = 1#1) : Vec F S1x6x1024 .f32 :=
  VO0_5.read (Elt F) (VO0_5.writes (Elt F) VO0_5.junk (runCompute c i arg4 harg4 arg5 harg5 arg6 harg6 arg7 harg7 arg8 harg8 arg9 harg9 x0 x1 x2 x3 xt0 xt1 hc1 hc2).2.1)

/-- The pieces the two whole-block stores writes into the codes' buffer tile its block, so they cover it. -/
theorem coverSkip_4 (hc1 : k0_cond1 i (lenWord c i xt0) = 1#1) (hc2 : ¬ k0_cond2 i (lenWord c i xt0) = 1#1) (y : S1x6x160x1024.Idx) : ∃ pc ∈ (runSkip c i arg4 harg4 arg5 harg5 arg6 harg6 arg7 harg7 arg8 harg8 arg9 harg9 x0 x1 x2 x3 xt0 xt1 hc1 hc2).1, y ∈ pc.1.set :=
  View.cover_of_tiledL (runSkip c i arg4 harg4 arg5 harg5 arg6 harg6 arg7 harg7 arg8 harg8 arg9 harg9 x0 x1 x2 x3 xt0 xt1 hc1 hc2).1 S1x6x160x1024.size (by sl_kernel_rfl) y

/-- What the two whole-block stores leaves in the codes' buffer: the pieces read back over arbitrary contents. -/
def outSkip_4 (hc1 : k0_cond1 i (lenWord c i xt0) = 1#1) (hc2 : ¬ k0_cond2 i (lenWord c i xt0) = 1#1) : Vec F S1x6x160x1024 .i8 :=
  VO0_4.read (Elt F) (VO0_4.writes (Elt F) VO0_4.junk (runSkip c i arg4 harg4 arg5 harg5 arg6 harg6 arg7 harg7 arg8 harg8 arg9 harg9 x0 x1 x2 x3 xt0 xt1 hc1 hc2).1)

/-- The pieces the two whole-block stores writes into the scales' buffer tile its block, so they cover it. -/
theorem coverSkip_5 (hc1 : k0_cond1 i (lenWord c i xt0) = 1#1) (hc2 : ¬ k0_cond2 i (lenWord c i xt0) = 1#1) (y : S1x6x1024.Idx) : ∃ pc ∈ (runSkip c i arg4 harg4 arg5 harg5 arg6 harg6 arg7 harg7 arg8 harg8 arg9 harg9 x0 x1 x2 x3 xt0 xt1 hc1 hc2).2.1, y ∈ pc.1.set :=
  View.cover_of_tiledL (runSkip c i arg4 harg4 arg5 harg5 arg6 harg6 arg7 harg7 arg8 harg8 arg9 harg9 x0 x1 x2 x3 xt0 xt1 hc1 hc2).2.1 S1x6x1024.size (by sl_kernel_rfl) y

/-- What the two whole-block stores leaves in the scales' buffer: the pieces read back over arbitrary contents. -/
def outSkip_5 (hc1 : k0_cond1 i (lenWord c i xt0) = 1#1) (hc2 : ¬ k0_cond2 i (lenWord c i xt0) = 1#1) : Vec F S1x6x1024 .f32 :=
  VO0_5.read (Elt F) (VO0_5.writes (Elt F) VO0_5.junk (runSkip c i arg4 harg4 arg5 harg5 arg6 harg6 arg7 harg7 arg8 harg8 arg9 harg9 x0 x1 x2 x3 xt0 xt1 hc1 hc2).2.1)

end Cert.KernelIdeal.Shift

end
-- ==== Proof.KernelIdeal.Body.lean ====
/- The body obligation of the pipeline: at every grid point the body takes the input blocks to what `outsAt0` says. -/
module

public import proofs.«01_k».proof.Proof.KernelIdeal.Cover

@[expose] public section

-- membership in a rectangle of production extents (`View.cover_of_tiled`): the elaborator's structural look
-- recurses once per coordinate of the long axes
set_option maxRecDepth 16384

noncomputable section

namespace Cert.KernelIdeal.Shift

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the block starts below the length the first condition fails, -/
theorem not_cond1 (i : grid0.Coords) (w : BitVec 32) (h : k0_cond2 i w = 1#1) : ¬ k0_cond1 i w = 1#1 :=
  fun h1 => (cond1_iff i w).1 h1 h
/-- and where it does not, the first condition holds. -/
theorem cond1_of (i : grid0.Coords) (w : BitVec 32) (h : ¬ k0_cond2 i w = 1#1) : k0_cond1 i w = 1#1 := (cond1_iff i w).2 h

/-! ## What the outputs hold after each point -/

/-- What the two output buffers hold after the body at point `t`: the loop's contents where the block starts below the
    length, the constants elsewhere. -/
def outsAt0 (hO : Ok m) (c : Dev nD) (t : Fin (cfgM m hO).N) : Vec F S1x6x160x1024 .i8 × Vec F S1x6x1024 .f32 :=
  if h : k0_cond2 (grid0.coords t) (lenWord c (grid0.coords t) (tbl m 0)) = 1#1 then
    (outCompute_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ h) h, outCompute_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ h) h)
  else
    (outSkip_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ h) h, outSkip_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ h) h)

/-- `outsAt0` at a point whose block starts below the length. -/
theorem outsAt0_compute (hO : Ok m) (c : Dev nD) (t : Fin (cfgM m hO).N) (h : k0_cond2 (grid0.coords t) (lenWord c (grid0.coords t) (tbl m 0)) = 1#1) :
    outsAt0 m hO c t = (outCompute_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ h) h, outCompute_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ h) h) := by
  unfold outsAt0; exact (dif_pos h).trans rfl

/-- `outsAt0` at a point whose block starts at or past the length. -/
theorem outsAt0_skip (hO : Ok m) (c : Dev nD) (t : Fin (cfgM m hO).N) (h : ¬ k0_cond2 (grid0.coords t) (lenWord c (grid0.coords t) (tbl m 0)) = 1#1) :
    outsAt0 m hO c t = (outSkip_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ h) h, outSkip_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ h) h) := by
  unfold outsAt0; exact (dif_neg h).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t).1
    | ⟨5, _⟩ => (outsAt0 m hO c t).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t).1 := by dsimp only [dats]; try rfl
theorem after0_5 (hO : Ok m) (c : Dev nD) (t : Fin (cfgM m hO).N) : (dats m hO 0 c).after 5 t = (outsAt0 m hO c t).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h : k0_cond2 (grid0.coords t) (lenWord c (grid0.coords t) (tbl m 0)) = 1#1
  · rw [outsAt0_compute m hO c t h]
    unfold outCompute_4 outCompute_5; (try dsimp only)
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((runCompute c (grid0.coords t) _ _ _ _ _ _ _ _ _ _ _ _ (iblk m hO c 0 t) (iblk m hO c 1 t) (iblk m hO c 2 t) (iblk m hO c 3 t) (tbl m 0) (tbl m 1) (not_cond1 _ _ h) h).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HT0]; · iexact HT0
    isplitl [HT1]; · iexact HT1
    iintro ⟨H0, H1, H2, H3, ⟨%e4, H4⟩, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverCompute_4 c _ _ _ _ _ _ _ _ _ _ _ _ _ _ _ _ _ _ _ _ _)
    unfold owns; iexists _; isplitr
    swap; · iexact H5
    ipureintro; exact View.read_writes_of_cover _ _ _ _ _ (coverCompute_5 c _ _ _ _ _ _ _ _ _ _ _ _ _ _ _ _ _ _ _ _ _)
  · rw [outsAt0_skip m hO c t h]
    unfold outSkip_4 outSkip_5; (try dsimp only)
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((runSkip c (grid0.coords t) _ _ _ _ _ _ _ _ _ _ _ _ (iblk m hO c 0 t) (iblk m hO c 1 t) (iblk m hO c 2 t) (iblk m hO c 3 t) (tbl m 0) (tbl m 1) (cond1_of _ _ h) h).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HT0]; · iexact HT0
    isplitl [HT1]; · iexact HT1
    iintro ⟨H0, H1, H2, H3, ⟨%e4, H4⟩, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverSkip_4 c _ _ _ _ _ _ _ _ _ _ _ _ _ _ _ _ _ _ _ _ _)
    unfold owns; iexists _; isplitr
    swap; · iexact H5
    ipureintro; exact View.read_writes_of_cover _ _ _ _ _ (coverSkip_5 c _ _ _ _ _ _ _ _ _ _ _ _ _ _ _ _ _ _ _ _ _)
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  -- whether the table makes an output window idle does not matter: its block is written back at every point
  have f4 : ((cfgM m hO).win (4 : Fin 6)).flush t = true := flush0_4 (adm m hO) t
  have f5 : ((cfgM m hO).win (5 : Fin 6)).flush t = true := flush0_5 (adm m hO) t
  rw [f4, f5]
  generalize (cfgM m hO).idle (4 : Fin 6) ((cfgM m hO).grid.coords t) = b4
  generalize (cfgM m hO).idle (5 : Fin 6) ((cfgM m hO).grid.coords t) = b5
  cases b4 <;> cases b5 <;> exact .rfl

end Cert.KernelIdeal.Shift

end
-- ==== Proof.KernelIdeal.Run.lean ====
/- The run of the whole program and its frame. -/
module

public import proofs.«01_k».proof.Proof.KernelIdeal.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Shift

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: the arguments end unchanged and every counter is zero, at any values. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Shift

end
-- ==== Proof.KernelIdeal.Tables.lean ====
/- The side condition of the prefetched tables, for every contents of them: the index maps that read the length table clamp
   the block index between 0 and the grid's own, so every block lies inside its array. -/
module

public import proofs.«01_k».proof.Proof.KernelIdeal.Setup

@[expose] public section

set_option maxRecDepth 16384

noncomputable section

namespace Cert.KernelIdeal.Shift

open Cert.KernelIdeal.Gen
open Idealize.ShloMosaic Idealize.ShloMosaic.TcCoe Idealize.ShloMosaic.Tactic

variable {F : FTy → Type} [FloatOps F]

/-- A word clamped below by zero and above by a small number is at most that number. -/
theorem clamp_le (n : Nat) (hn : n < 16) (v : BitVec 32) :
    (Scalar.minsi (BitVec.ofNat 32 n) (Scalar.maxsi v 0#32)).toNat ≤ n := by
  have h0 : (0#32).toInt = 0 := by decide
  have hi : (BitVec.ofNat 32 n).toInt = n := by
    rw [BitVec.toInt_eq_toNat_cond, BitVec.toNat_ofNat]; split <;> omega
  have hN : (BitVec.ofNat 32 n).toNat = n := by rw [BitVec.toNat_ofNat]; omega
  have key : ∀ w : BitVec 32, 0 ≤ w.toInt → w.toInt ≤ n → w.toNat ≤ n := by
    intro w hw hle
    rw [BitVec.toInt_eq_toNat_cond] at hw hle
    split at hw <;> split at hle <;> omega
  unfold Scalar.minsi Scalar.maxsi IntOp.minsi IntOp.maxsi
  split <;> split <;> rename_i h1 h2 <;> simp only [BitVec.slt_iff_toInt_lt] at h1 h2
  all_goals first | exact hN.le | (apply key <;> omega)

/-- The index of the codes' input block at a grid point is at most the point's own along the tokens. -/
theorem transform_0_le (pf : pre0.Contents (Elt F)) (i : grid0.Coords) :
    cc0_transform_0 k0_off1_inb numel1_S1 pf i 3 ≤ (i 1).val := by
  have h1 : (i 1).val < 16 := (i 1).isLt
  simp only [cc0_transform_0, Matrix.cons_val]
  exact clamp_le (i 1).val h1 _
/-- The same for the scales' input block. -/
theorem transform_1_le (pf : pre0.Contents (Elt F)) (i : grid0.Coords) :
    cc0_transform_1 k0_off1_inb numel1_S1 pf i 2 ≤ (i 1).val := by
  have h1 : (i 1).val < 16 := (i 1).isLt
  simp only [cc0_transform_1, Matrix.cons_val]
  exact clamp_le (i 1).val h1 _

theorem batch_toNat (i : grid0.Coords) : (BitVec.ofNat 32 (i 0).val).toNat = (i 0).val := by
  have := (i 0).isLt
  rw [BitVec.toNat_ofNat]; exact Nat.mod_eq_of_lt (lt_trans this (by decide))

/-- The side condition of the tables holds whatever they hold. -/
theorem ok_all (pf : pre0.Contents (Elt F)) : ok0 pf := by
  refine ⟨fun i => ⟨fun a => ?_, .inr (Affine.block_words_dvd (of_decide_eq_true rfl) (by decide))⟩, fun i => ⟨fun a => ?_, .inl rfl⟩⟩
  · have h0 : (i 0).val < 12 := (i 0).isLt
    have h1 : (i 1).val < 16 := (i 1).isLt
    have h3 := transform_0_le pf i
    match a with
    | 0 => show ((BitVec.ofNat 32 (i 0).val).toNat + 1) * 1 ≤ 12; rw [batch_toNat]; omega
    | 1 => show (0 + 1) * 6 ≤ 6; omega
    | 2 => show (0 + 1) * 160 ≤ 160; omega
    | 3 => show (_ + 1) * 1024 ≤ 16384; omega
  · have h0 : (i 0).val < 12 := (i 0).isLt
    have h1 : (i 1).val < 16 := (i 1).isLt
    have h3 := transform_1_le pf i
    match a with
    | 0 => show ((BitVec.ofNat 32 (i 0).val).toNat + 1) * 1 ≤ 12; rw [batch_toNat]; omega
    | 1 => show (0 + 1) * 6 ≤ 6; omega
    | 2 => show (_ + 1) * 1024 ≤ 16384; omega

/-- So the pipeline's condition holds from every memory. -/
theorem ok (m : (ℓ : Loc nD τ sig) → Buf (Elt F) ℓ) : Ok m := ok_all _

end Cert.KernelIdeal.Shift

end
-- ==== Proof.Spec.lean ====
/- One token of one head, as arithmetic on extended reals: what the reference computes, what the kernel computes, and that
   the two agree. The codes are integers, the cosine and sine of a pair of channels are reals that are not both zero, and the
   old scale is any extended real. -/
module

public import Idealize.ShloMosaic.PureOps.Ideal
public import Idealize.ShloMosaic.PureOps.Ideal.Laws
public import Idealize.ShloMosaic.Lib.IdealHost

@[expose] public section

noncomputable section

namespace Cert.Shift

open Idealize.ShloMosaic

/-- The magnitude of an extended real. -/
abbrev mag (x : EReal) : EReal := max x (-x)

/-- The largest code, 127, as the programs write it. -/
abbrev c127 : EReal := Ideal.ofBits .f32 1123942400#32
/-- Its negation, as the programs write it. -/
abbrev cm127 : EReal := Ideal.ofBits .f32 3271426048#32
/-- The start of a maximum, minus infinity, as the programs write it. -/
abbrev cbot : EReal := Ideal.ofBits .f32 4286578688#32

theorem c127_eq : c127 = ((127 : ℝ) : EReal) := by
  simp [Ideal.ofBits, Ideal.ieee, -EReal.coe_mul]; norm_num
theorem cm127_eq : cm127 = ((-127 : ℝ) : EReal) := by
  simp [Ideal.ofBits, Ideal.ieee, -EReal.coe_mul, -EReal.coe_neg]; norm_num
theorem cbot_eq : cbot = ⊥ := by simp [Ideal.ofBits, Ideal.ieee]

/-- Round to the nearest integer, clip to the code range, and take the 8-bit integer. -/
def quant (y : EReal) : BitVec 8 := Ideal.fptosi 8 (min c127 (max cm127 (Ideal.liftRound Ideal.roundHalfEven y)))

/-- A code as a number. -/
abbrev num (b : BitVec 8) : EReal := ((b.toInt : ℝ) : EReal)

/-- The scale a token gets for the maximum `a` of its magnitudes. -/
def toScale (a : EReal) : EReal := if a = 0 then 1 else Ideal.div a c127

/-- The maximum of 80 extended reals. -/
def maxOf (f : Fin 80 → EReal) : EReal := Finset.univ.fold max cbot f

theorem maxOf_eq (f : Fin 80 → EReal) : maxOf f = Finset.univ.sup f := by
  unfold maxOf; rw [cbot_eq]; rfl

section Row

variable (v : BitVec 1) (q1 q2 : Fin 80 → BitVec 8) (sc : EReal) (c s : Fin 80 → EReal) (d : Fin 80)

/-- The reference's two halves of the rotated token: dequantise, rotate, zero it if it is not valid. -/
def y1 : EReal := Scalar.select v (num (q1 d) * sc * c d - num (q2 d) * sc * s d) 0
@[inherit_doc y1] def y2 : EReal := Scalar.select v (num (q2 d) * sc * c d + num (q1 d) * sc * s d) 0
/-- The reference's new scale, -/
def refScale : EReal := toScale (max (maxOf fun x => mag (y1 v q1 q2 sc c s x)) (maxOf fun x => mag (y2 v q1 q2 sc c s x)))
/-- and its new codes, of the first and of the second half. -/
def refCode1 : BitVec 8 := quant (Ideal.div (y1 v q1 q2 sc c s d) (refScale v q1 q2 sc c s))
@[inherit_doc refCode1] def refCode2 : BitVec 8 := quant (Ideal.div (y2 v q1 q2 sc c s d) (refScale v q1 q2 sc c s))

/-- The kernel's two halves of the rotated codes: the scale is left out. -/
def r1 : EReal := num (q1 d) * c d - num (q2 d) * s d
@[inherit_doc r1] def r2 : EReal := num (q2 d) * c d + num (q1 d) * s d
/-- The kernel's maximum of the rotated codes, -/
def top : EReal := maxOf fun x => max (mag (r1 q1 q2 c s x)) (mag (r2 q1 q2 c s x))
/-- its new scale, -/
def kerScale : EReal := toScale (top q1 q2 c s * mag (Scalar.select v sc 0))
/-- and its new codes. -/
def kerCode1 : BitVec 8 := quant (r1 q1 q2 c s d * Ideal.div (Scalar.select v sc 0) (kerScale v q1 q2 sc c s))
@[inherit_doc kerCode1] def kerCode2 : BitVec 8 := quant (r2 q1 q2 c s d * Ideal.div (Scalar.select v sc 0) (kerScale v q1 q2 sc c s))

/-- The kernel's new code of any of the 160 channels, -/
def kerCode (d : Fin 160) : BitVec 8 :=
  if h : d.val < 80 then kerCode1 v q1 q2 sc c s ⟨d.val, h⟩ else kerCode2 v q1 q2 sc c s ⟨d.val - 80, by omega⟩
/-- and the reference's. -/
def refCode (d : Fin 160) : BitVec 8 :=
  if h : d.val < 80 then refCode1 v q1 q2 sc c s ⟨d.val, h⟩ else refCode2 v q1 q2 sc c s ⟨d.val - 80, by omega⟩

end Row

/-! ## A token that is not valid -/

theorem quant_zero : quant 0 = 0#8 := by
  have h0 : Ideal.roundHalfEven 0 = 0 := by unfold Ideal.roundHalfEven; norm_num
  have h : min c127 (max cm127 (Ideal.liftRound Ideal.roundHalfEven 0)) = ((0 : ℝ) : EReal) := by
    rw [c127_eq, cm127_eq, ← EReal.coe_zero, Ideal.liftRound_coe, h0, Int.cast_zero]
    rw [max_eq_right (EReal.coe_le_coe_iff.2 (by norm_num)), min_eq_right (EReal.coe_le_coe_iff.2 (by norm_num))]
  unfold quant; rw [h, Ideal.fptosi, Ideal.toIntClamped_coe]; simp

theorem toScale_zero : toScale 0 = 1 := if_pos rfl

theorem mag_zero : mag 0 = 0 := by simp [mag]

theorem maxOf_zero : maxOf (fun _ => 0) = 0 := by
  rw [maxOf_eq]; exact Finset.sup_const (Finset.univ_nonempty) 0

theorem div_one (x : EReal) : Ideal.div x 1 = x := by
  unfold Ideal.div; rw [if_neg one_ne_zero, inv_one_ereal, mul_one]
where
  inv_one_ereal : (1 : EReal)⁻¹ = 1 := by rw [← EReal.coe_one, ← EReal.coe_inv, inv_one]

section Row

variable {v : BitVec 1} {q1 q2 : Fin 80 → BitVec 8} {sc : EReal} {c s : Fin 80 → EReal}

/-- If every rotated and dequantised channel is zero the scale is one, -/
theorem refScale_zero (h1 : ∀ x, y1 v q1 q2 sc c s x = 0) (h2 : ∀ x, y2 v q1 q2 sc c s x = 0) : refScale v q1 q2 sc c s = 1 := by
  unfold refScale; simp only [h1, h2, mag_zero, maxOf_zero, max_self, toScale_zero]

theorem refScale_invalid (hv : v ≠ 1#1) : refScale v q1 q2 sc c s = 1 :=
  refScale_zero (fun _ => if_neg hv) (fun _ => if_neg hv)
theorem refCode1_invalid (hv : v ≠ 1#1) (d : Fin 80) : refCode1 v q1 q2 sc c s d = 0#8 := by
  unfold refCode1; rw [refScale_invalid hv, div_one, show y1 v q1 q2 sc c s d = 0 from if_neg hv, quant_zero]
theorem refCode2_invalid (hv : v ≠ 1#1) (d : Fin 80) : refCode2 v q1 q2 sc c s d = 0#8 := by
  unfold refCode2; rw [refScale_invalid hv, div_one, show y2 v q1 q2 sc c s d = 0 from if_neg hv, quant_zero]

theorem refCode_invalid (hv : v ≠ 1#1) (d : Fin 160) : refCode v q1 q2 sc c s d = 0#8 := by
  unfold refCode; split
  · exact refCode1_invalid hv _
  · exact refCode2_invalid hv _

end Row

/-! ## Magnitudes and maxima -/

theorem mag_nonneg (x : EReal) : 0 ≤ mag x := by
  rcases le_total 0 x with h | h
  · exact le_max_of_le_left h
  · exact le_max_of_le_right (EReal.neg_nonneg.2 h)

theorem mag_coe (r : ℝ) : mag (r : EReal) = ((|r| : ℝ) : EReal) := by
  unfold mag; rw [← EReal.coe_neg, abs_eq_max_neg]; exact (EReal.coe_strictMono.monotone.map_max).symm

theorem mag_eq_zero {x : EReal} (h : mag x = 0) : x = 0 := by
  have h1 : x ≤ 0 := h ▸ le_max_left x (-x)
  have h2 : -x ≤ 0 := h ▸ le_max_right x (-x)
  exact le_antisymm h1 (EReal.neg_le_zero.1 h2)

theorem le_maxOf (f : Fin 80 → EReal) (x : Fin 80) : f x ≤ maxOf f := by
  rw [maxOf_eq]; exact Finset.le_sup (Finset.mem_univ x)

theorem maxOf_attained (f : Fin 80 → EReal) : ∃ x, maxOf f = f x := by
  rw [maxOf_eq]
  obtain ⟨x, -, h⟩ := Finset.exists_mem_eq_sup Finset.univ Finset.univ_nonempty f
  exact ⟨x, h⟩

theorem maxOf_le {f : Fin 80 → EReal} {b : EReal} (h : ∀ x, f x ≤ b) : maxOf f ≤ b := by
  rw [maxOf_eq]; exact Finset.sup_le fun x _ => h x

/-- Scaling every entry by a number that is not negative scales the maximum. -/
theorem maxOf_mul (f : Fin 80 → EReal) {k : EReal} (hk : 0 ≤ k) : maxOf (fun x => f x * k) = maxOf f * k := by
  apply le_antisymm
  · exact maxOf_le fun x => mul_le_mul_of_nonneg_right (le_maxOf f x) hk
  · obtain ⟨x, hx⟩ := maxOf_attained f
    rw [hx]; exact le_maxOf (fun x => f x * k) x

/-- The maximum of the pairwise maxima is the maximum of the two maxima. -/
theorem maxOf_max (f g : Fin 80 → EReal) : maxOf (fun x => max (f x) (g x)) = max (maxOf f) (maxOf g) := by
  simp only [maxOf_eq]; exact Finset.sup_sup

/-! ## The equation -/

section Equation

variable (q1 q2 : Fin 80 → BitVec 8) (c s : Fin 80 → ℝ)

/-- The rotated codes are reals. -/
theorem r1_coe (x : Fin 80) : r1 q1 q2 (fun x => c x) (fun x => s x) x
    = (((q1 x).toInt * c x - (q2 x).toInt * s x : ℝ) : EReal) := by
  unfold r1; push_cast; rfl
@[inherit_doc r1_coe] theorem r2_coe (x : Fin 80) : r2 q1 q2 (fun x => c x) (fun x => s x) x
    = (((q2 x).toInt * c x + (q1 x).toInt * s x : ℝ) : EReal) := by
  unfold r2; push_cast; rfl

/-- For a real scale the dequantised channel is the rotated code times the scale. -/
theorem y1_real (σ : ℝ) (x : Fin 80) : y1 1#1 q1 q2 σ (fun x => c x) (fun x => s x) x = r1 q1 q2 (fun x => c x) (fun x => s x) x * σ := by
  rw [r1_coe]; show num (q1 x) * σ * c x - num (q2 x) * σ * s x = _
  rw [← EReal.coe_mul, ← EReal.coe_mul, ← EReal.coe_mul, ← EReal.coe_mul, ← EReal.coe_sub, ← EReal.coe_mul]
  congr 1; ring
@[inherit_doc y1_real] theorem y2_real (σ : ℝ) (x : Fin 80) : y2 1#1 q1 q2 σ (fun x => c x) (fun x => s x) x = r2 q1 q2 (fun x => c x) (fun x => s x) x * σ := by
  rw [r2_coe]; show num (q2 x) * σ * c x + num (q1 x) * σ * s x = _
  rw [← EReal.coe_mul, ← EReal.coe_mul, ← EReal.coe_mul, ← EReal.coe_mul, ← EReal.coe_add, ← EReal.coe_mul]
  congr 1; ring

theorem mag_r1_mul (σ : ℝ) (x : Fin 80) : mag (r1 q1 q2 (fun x => c x) (fun x => s x) x * σ) = mag (r1 q1 q2 (fun x => c x) (fun x => s x) x) * mag (σ : EReal) := by
  rw [r1_coe, ← EReal.coe_mul, mag_coe, mag_coe, mag_coe, abs_mul, EReal.coe_mul]
theorem mag_r2_mul (σ : ℝ) (x : Fin 80) : mag (r2 q1 q2 (fun x => c x) (fun x => s x) x * σ) = mag (r2 q1 q2 (fun x => c x) (fun x => s x) x) * mag (σ : EReal) := by
  rw [r2_coe, ← EReal.coe_mul, mag_coe, mag_coe, mag_coe, abs_mul, EReal.coe_mul]

/-- For a real scale the two programs' scales are equal. -/
theorem scale_real (σ : ℝ) : kerScale 1#1 q1 q2 σ (fun x => c x) (fun x => s x) = refScale 1#1 q1 q2 σ (fun x => c x) (fun x => s x) := by
  unfold kerScale refScale; congr 1
  simp only [y1_real, y2_real, mag_r1_mul, mag_r2_mul]
  rw [maxOf_mul _ (mag_nonneg _), maxOf_mul _ (mag_nonneg _)]
  show top q1 q2 _ _ * mag (σ : EReal) = _
  unfold top; rw [maxOf_max]
  exact (Monotone.map_max fun a b h => mul_le_mul_of_nonneg_right h (mag_nonneg (σ : EReal)) : _)

/-- A scale is never zero: it is one, or a nonzero maximum over 127. -/
theorem toScale_ne_zero {a : EReal} : toScale a ≠ 0 := by
  have h127 : c127 ≠ 0 := by rw [c127_eq]; exact_mod_cast (by norm_num : (127 : ℝ) ≠ 0)
  have hinv : c127⁻¹ ≠ 0 := by rw [c127_eq, ← EReal.coe_inv]; exact_mod_cast (by norm_num : (127 : ℝ)⁻¹ ≠ 0)
  unfold toScale; split
  · exact one_ne_zero
  · rename_i h; unfold Ideal.div; rw [if_neg h127]; exact mul_ne_zero h hinv

/-- Multiplying by a quotient is dividing the product. -/
theorem mul_div_of_ne {x y z : EReal} (h : z ≠ 0) : x * Ideal.div y z = Ideal.div (x * y) z := by
  unfold Ideal.div; rw [if_neg h, if_neg h, mul_assoc]

/-- The rotation of a pair of codes is zero only for the zero pair. -/
theorem codes_zero {a b u w : ℝ} (hcs : u ≠ 0 ∨ w ≠ 0) (h1 : a * u - b * w = 0) (h2 : b * u + a * w = 0) : a = 0 ∧ b = 0 := by
  have hp : 0 < u ^ 2 + w ^ 2 := by
    rcases hcs with h | h
    · exact add_pos_of_pos_of_nonneg (by positivity) (by positivity)
    · exact add_pos_of_nonneg_of_pos (by positivity) (by positivity)
  constructor
  · have : a * (u ^ 2 + w ^ 2) = 0 := by linear_combination u * h1 + w * h2
    exact (mul_eq_zero.1 this).resolve_right hp.ne'
  · have : b * (u ^ 2 + w ^ 2) = 0 := by linear_combination u * h2 - w * h1
    exact (mul_eq_zero.1 this).resolve_right hp.ne'

/-- An extended real is infinite. -/
abbrev Inf (x : EReal) : Prop := x = ⊤ ∨ x = ⊥

theorem Inf.mul_coe {x : EReal} (hx : Inf x) {r : ℝ} (h : r ≠ 0) : Inf (x * r) := by
  rcases lt_or_gt_of_ne h with h | h <;> rcases hx with rfl | rfl
  · exact .inr (EReal.top_mul_coe_of_neg h)
  · exact .inl (EReal.bot_mul_coe_of_neg h)
  · exact .inl (EReal.top_mul_coe_of_pos h)
  · exact .inr (EReal.bot_mul_coe_of_pos h)

theorem Inf.coe_mul {x : EReal} (hx : Inf x) {r : ℝ} (h : r ≠ 0) : Inf (r * x) := by rw [mul_comm]; exact hx.mul_coe h

theorem Inf.add_left {x : EReal} (hx : Inf x) (y : EReal) : Inf (x + y) := by
  rcases hx with rfl | rfl
  · by_cases hy : y = ⊥
    · subst hy; exact .inr (EReal.add_bot _)
    · exact .inl (EReal.top_add_of_ne_bot hy)
  · exact .inr (EReal.bot_add _)
theorem Inf.add_right {y : EReal} (hy : Inf y) (x : EReal) : Inf (x + y) := by rw [add_comm]; exact hy.add_left x
theorem Inf.neg {x : EReal} (hx : Inf x) : Inf (-x) := by
  rcases hx with rfl | rfl
  · exact .inr EReal.neg_top
  · exact .inl EReal.neg_bot
theorem Inf.sub_left {x : EReal} (hx : Inf x) (y : EReal) : Inf (x - y) := by rw [sub_eq_add_neg]; exact hx.add_left _
theorem Inf.sub_right {y : EReal} (hy : Inf y) (x : EReal) : Inf (x - y) := by rw [sub_eq_add_neg]; exact hy.neg.add_right _
theorem Inf.mag {x : EReal} (hx : Inf x) : mag x = ⊤ := by
  rcases hx with rfl | rfl
  · exact max_eq_left le_top
  · show max ⊥ (-⊥) = ⊤; rw [EReal.neg_bot]; exact max_eq_right le_top

/-- With an infinite scale, a pair of codes that is not zero makes one of the two dequantised channels infinite. -/
theorem inf_channel {sc : EReal} (hsc : Inf sc) (hcs : ∀ x, c x ≠ 0 ∨ s x ≠ 0) (x : Fin 80)
    (hx : ((q1 x).toInt : ℝ) ≠ 0 ∨ ((q2 x).toInt : ℝ) ≠ 0) :
    Inf (y1 1#1 q1 q2 sc (fun x => c x) (fun x => s x) x) ∨ Inf (y2 1#1 q1 q2 sc (fun x => c x) (fun x => s x) x) := by
  show Inf (num (q1 x) * sc * c x - num (q2 x) * sc * s x) ∨ Inf (num (q2 x) * sc * c x + num (q1 x) * sc * s x)
  rcases hx with h | h <;> rcases hcs x with h' | h'
  · exact .inl (((hsc.coe_mul h).mul_coe h').sub_left _)
  · exact .inr (((hsc.coe_mul h).mul_coe h').add_right _)
  · exact .inr (((hsc.coe_mul h).mul_coe h').add_left _)
  · exact .inl (((hsc.coe_mul h).mul_coe h').sub_right _)

theorem toScale_top : toScale ⊤ = ⊤ := by
  have h127 : c127 ≠ 0 := by rw [c127_eq]; exact_mod_cast (by norm_num : (127 : ℝ) ≠ 0)
  unfold toScale; rw [if_neg (by exact EReal.top_ne_zero)]
  unfold Ideal.div; rw [if_neg h127, c127_eq, ← EReal.coe_inv]
  exact EReal.top_mul_coe_of_pos (by norm_num)

theorem div_top (x : EReal) : Ideal.div x ⊤ = 0 := by
  unfold Ideal.div; rw [if_neg EReal.top_ne_zero, EReal.inv_top, mul_zero]

/-- The kernel's token is the reference's: the scale, and the numbers that are rounded to the codes. -/
def RowEq (v : BitVec 1) (sc : EReal) : Prop :=
  kerScale v q1 q2 sc (fun x => c x) (fun x => s x) = refScale v q1 q2 sc (fun x => c x) (fun x => s x)
    ∧ ∀ d, r1 q1 q2 (fun x => c x) (fun x => s x) d * Ideal.div (Scalar.select v sc 0) (kerScale v q1 q2 sc (fun x => c x) (fun x => s x))
          = Ideal.div (y1 v q1 q2 sc (fun x => c x) (fun x => s x) d) (refScale v q1 q2 sc (fun x => c x) (fun x => s x))
        ∧ r2 q1 q2 (fun x => c x) (fun x => s x) d * Ideal.div (Scalar.select v sc 0) (kerScale v q1 q2 sc (fun x => c x) (fun x => s x))
          = Ideal.div (y2 v q1 q2 sc (fun x => c x) (fun x => s x) d) (refScale v q1 q2 sc (fun x => c x) (fun x => s x))

/-- A token that is not valid: the scale is one and every code zero. -/
theorem row_invalid {v : BitVec 1} (hv : v ≠ 1#1) (sc : EReal) : RowEq q1 q2 c s v sc := by
  have hk : kerScale v q1 q2 sc (fun x => (c x : EReal)) (fun x => s x) = 1 := by
    unfold kerScale; rw [show Scalar.select v sc 0 = 0 from if_neg hv, mag_zero, mul_zero, toScale_zero]
  have h1 : ∀ d, y1 v q1 q2 sc (fun x => (c x : EReal)) (fun x => s x) d = 0 := fun d => if_neg hv
  have h2 : ∀ d, y2 v q1 q2 sc (fun x => (c x : EReal)) (fun x => s x) d = 0 := fun d => if_neg hv
  refine ⟨hk.trans (refScale_invalid hv).symm, fun d => ⟨?_, ?_⟩⟩
  · rw [hk, refScale_invalid hv, div_one, div_one, h1, show Scalar.select v sc 0 = 0 from if_neg hv, mul_zero]
  · rw [hk, refScale_invalid hv, div_one, div_one, h2, show Scalar.select v sc 0 = 0 from if_neg hv, mul_zero]

/-- A valid token with an infinite scale: if every code is zero the new scale is one and the codes zero; else both programs
    find an infinite maximum, an infinite new scale, and codes zero. -/
theorem row_inf {sc : EReal} (hsc : Inf sc) (hcs : ∀ x, c x ≠ 0 ∨ s x ≠ 0) : RowEq q1 q2 c s 1#1 sc := by
  have hsel : Scalar.select 1#1 sc 0 = sc := if_pos rfl
  by_cases hz : ∀ x, ((q1 x).toInt : ℝ) = 0 ∧ ((q2 x).toInt : ℝ) = 0
  · have hr1 : ∀ x, r1 q1 q2 (fun x => (c x : EReal)) (fun x => s x) x = 0 := fun x => by
      rw [r1_coe, (hz x).1, (hz x).2]; simp
    have hr2 : ∀ x, r2 q1 q2 (fun x => (c x : EReal)) (fun x => s x) x = 0 := fun x => by
      rw [r2_coe, (hz x).1, (hz x).2]; simp
    have hy1 : ∀ x, y1 1#1 q1 q2 sc (fun x => (c x : EReal)) (fun x => s x) x = 0 := fun x => by
      show num (q1 x) * sc * c x - num (q2 x) * sc * s x = 0
      simp only [num, (hz x).1, (hz x).2, EReal.coe_zero, zero_mul, sub_zero]
    have hy2 : ∀ x, y2 1#1 q1 q2 sc (fun x => (c x : EReal)) (fun x => s x) x = 0 := fun x => by
      show num (q2 x) * sc * c x + num (q1 x) * sc * s x = 0
      simp only [num, (hz x).1, (hz x).2, EReal.coe_zero, zero_mul, add_zero]
    have hk : kerScale 1#1 q1 q2 sc (fun x => (c x : EReal)) (fun x => s x) = 1 := by
      unfold kerScale top; simp only [hr1, hr2, mag_zero, max_self, maxOf_zero, zero_mul, toScale_zero]
    refine ⟨hk.trans (refScale_zero hy1 hy2).symm, fun d => ⟨?_, ?_⟩⟩
    · rw [hr1, hy1, zero_mul, refScale_zero hy1 hy2, div_one]
    · rw [hr2, hy2, zero_mul, refScale_zero hy1 hy2, div_one]
  · obtain ⟨x, hx⟩ := not_forall.1 hz
    have hx' : ((q1 x).toInt : ℝ) ≠ 0 ∨ ((q2 x).toInt : ℝ) ≠ 0 := not_and_or.1 hx
    have htop : 0 < top q1 q2 (fun x => (c x : EReal)) (fun x => s x) := by
      refine lt_of_lt_of_le ?_ (le_maxOf _ x)
      refine lt_of_le_of_ne (le_max_of_le_left (mag_nonneg _)) fun h => ?_
      have e1 := mag_eq_zero (le_antisymm (h ▸ le_max_left _ _) (mag_nonneg (r1 q1 q2 (fun x => (c x : EReal)) (fun x => s x) x)))
      have e2 := mag_eq_zero (le_antisymm (h ▸ le_max_right _ _) (mag_nonneg (r2 q1 q2 (fun x => (c x : EReal)) (fun x => s x) x)))
      rw [r1_coe] at e1; rw [r2_coe] at e2
      exact hx (codes_zero (hcs x) (EReal.coe_eq_zero.1 e1) (EReal.coe_eq_zero.1 e2))
    have hk : kerScale 1#1 q1 q2 sc (fun x => (c x : EReal)) (fun x => s x) = ⊤ := by
      unfold kerScale; rw [hsel, hsc.mag, EReal.mul_top_of_pos htop, toScale_top]
    have hr : refScale 1#1 q1 q2 sc (fun x => (c x : EReal)) (fun x => s x) = ⊤ := by
      unfold refScale
      rw [show max (maxOf fun x => mag (y1 1#1 q1 q2 sc (fun x => (c x : EReal)) (fun x => s x) x)) (maxOf fun x => mag (y2 1#1 q1 q2 sc (fun x => (c x : EReal)) (fun x => s x) x)) = ⊤ from ?_, toScale_top]
      rcases inf_channel q1 q2 c s hsc hcs x hx' with h | h
      · exact top_le_iff.1 (le_max_of_le_left (h.mag ▸ le_maxOf (fun x => mag (y1 1#1 q1 q2 sc (fun x => (c x : EReal)) (fun x => s x) x)) x))
      · exact top_le_iff.1 (le_max_of_le_right (h.mag ▸ le_maxOf (fun x => mag (y2 1#1 q1 q2 sc (fun x => (c x : EReal)) (fun x => s x) x)) x))
    refine ⟨hk.trans hr.symm, fun d => ⟨?_, ?_⟩⟩ <;> rw [hk, hr, div_top, div_top, mul_zero]

/-- The kernel's token is the reference's, for every scale. -/
theorem row_eq (v : BitVec 1) (sc : EReal) (hcs : ∀ x, c x ≠ 0 ∨ s x ≠ 0) : RowEq q1 q2 c s v sc := by
  by_cases hv : v = 1#1
  swap
  · exact row_invalid q1 q2 c s hv sc
  subst hv
  have hsel : Scalar.select 1#1 sc 0 = sc := if_pos rfl
  induction sc using EReal.rec with
  | bot => exact row_inf q1 q2 c s (.inr rfl) hcs
  | top => exact row_inf q1 q2 c s (.inl rfl) hcs
  | coe σ =>
    have e := scale_real q1 q2 c s σ
    have hne : refScale 1#1 q1 q2 σ (fun x => (c x : EReal)) (fun x => s x) ≠ 0 := toScale_ne_zero
    refine ⟨e, fun d => ⟨?_, ?_⟩⟩
    · rw [e, hsel, mul_div_of_ne hne, y1_real]
    · rw [e, hsel, mul_div_of_ne hne, y2_real]

end Equation

/-- The equation, for a cosine and a sine that are reals, not both zero: the same scale and the same codes. -/
theorem row (v : BitVec 1) (q1 q2 : Fin 80 → BitVec 8) (sc : EReal) (c s : Fin 80 → EReal)
    (hcs : ∀ x, ∃ a b : ℝ, c x = a ∧ s x = b ∧ (a ≠ 0 ∨ b ≠ 0)) :
    kerScale v q1 q2 sc c s = refScale v q1 q2 sc c s ∧ ∀ d, kerCode v q1 q2 sc c s d = refCode v q1 q2 sc c s d := by
  choose a b ha hb hab using hcs
  obtain rfl : c = fun x => (a x : EReal) := funext ha
  obtain rfl : s = fun x => (b x : EReal) := funext hb
  have h := row_eq q1 q2 a b v sc hab
  refine ⟨h.1, fun d => ?_⟩
  unfold kerCode refCode; split
  · exact congrArg quant (h.2 _).1
  · exact congrArg quant (h.2 _).2

end Cert.Shift

end
-- ==== Proof.ReferenceIdeal.Rows.lean ====
/- The reference's arithmetic read at one element: the row arithmetic of `Spec`. -/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Shift

open Cert.ReferenceIdeal.Gen Cert.Shift
open Idealize.ShloMosaic Idealize.ShloMosaic.TcCoe Idealize.ShloMosaic.Tactic

/-! ## The reference's steps, over any vectors -/

section Steps

variable (b : Fin 12) (t : Fin 16384) (h : Fin 6)

/-- The maximum over the channels. -/
theorem reduce_apply (v : FVec Ideal S12x16384x6x80 .f32) :
    multiReduction .maximumf [3] S12x16384x6 v 0xFF800000#32 reduces_S12x16384x6x80_S12x16384x6 (.inl rfl) rfl (ix3 b t h)
      = maxOf (fun x => v (ix4 b t h x)) := by
  refine (Ideal.multiReduction_maximumf_single v 0xFF800000#32 reduces_S12x16384x6x80_S12x16384x6 (.inl rfl) rfl (ix3 b t h)).trans ?_
  refine congrArg (fun f => Finset.univ.fold max cbot f) (funext fun x => congrArg v (funext fun a => Fin.ext ?_))
  match a with
  | 0 => rfl
  | 1 => rfl
  | 2 => rfl
  | 3 => rfl

/-- The scale for two maxima. -/
theorem scale_apply (A B : FVec Ideal S12x16384x6 .f32) :
    select (cmpf .oeq (maximumf A B) (broadcast S12x16384x6 (Scalar.ofBits .f32 0x00000000#32 : Ideal .f32))) (broadcast S12x16384x6 (Scalar.ofBits .f32 0x3F800000#32 : Ideal .f32)) (divf (maximumf A B) (broadcast S12x16384x6 (Scalar.ofBits .f32 0x42FE0000#32 : Ideal .f32))) (ix3 b t h)
      = toScale (max (A (ix3 b t h)) (B (ix3 b t h))) := by
  pointwise []
  rfl

/-- The codes of one half. -/
theorem half_apply (y : FVec Ideal S12x16384x6x80 .f32) (n : FVec Ideal S12x16384x6 .f32) (d : Fin 80) :
    fptosi 8 (minimumf (broadcast S12x16384x6x80 (Scalar.ofBits .f32 0x42FE0000#32 : Ideal .f32)) (maximumf (broadcast S12x16384x6x80 (Scalar.ofBits .f32 0xC2FE0000#32 : Ideal .f32)) (roundeven (divf y (broadcastTo S12x16384x6x80 (shapeCast S12x16384x6x1 n shapeCasts_S12x16384x6_S12x16384x6x1) broadcasts_S12x16384x6x1_S12x16384x6x80))))) (ix4 b t h d)
      = quant (Ideal.div (y (ix4 b t h d)) (n (ix3 b t h))) := by
  pointwise []
  rfl

/-- The two halves side by side. -/
theorem halves_apply (u w : IVec S12x16384x6x80 8) (d : Fin 160) :
    concatenate S12x16384x6x160 3 [⟨S12x16384x6x80, u⟩, ⟨S12x16384x6x80, w⟩] concatenates_S12x16384x6x80_S12x16384x6x80_S12x16384x6x160_d3 (ix4 b t h d)
      = if hd : d.val < 80 then u (ix4 b t h ⟨d.val, hd⟩) else w (ix4 b t h ⟨d.val - 80, by omega⟩) := by
  pointwise []

variable (v17 : IVec S12x16384x1x1 1) (v23 v29 : FVec Ideal S12x16384x1x80 .f32) (v35 v39 v44 : FVec Ideal S12x16384x6x80 .f32)

/-- The new scale. -/
theorem pay11_apply : k0_pay11 v17 v23 v29 v35 v39 v44 (ix3 b t h)
    = toScale (max (maxOf fun x => mag (k0_pay9 v17 v44 (ix4 b t h x))) (maxOf fun x => mag (k0_pay10 v17 v23 v29 v35 v39 (ix4 b t h x)))) := by
  unfold k0_pay11
  refine (scale_apply b t h _ _).trans ?_
  rw [reduce_apply, reduce_apply]
  rfl

/-- The new code. -/
theorem pay12_apply (d : Fin 160) : k0_pay12 v17 v23 v29 v35 v39 v44 (ix4 b t h d)
    = if hd : d.val < 80 then quant (Ideal.div (k0_pay9 v17 v44 (ix4 b t h ⟨d.val, hd⟩)) (k0_pay11 v17 v23 v29 v35 v39 v44 (ix3 b t h)))
      else quant (Ideal.div (k0_pay10 v17 v23 v29 v35 v39 (ix4 b t h ⟨d.val - 80, by omega⟩)) (k0_pay11 v17 v23 v29 v35 v39 v44 (ix3 b t h))) := by
  unfold k0_pay12
  refine (halves_apply b t h _ _ d).trans ?_
  split
  · exact half_apply b t h _ _ _
  · exact half_apply b t h _ _ _

end Steps

/-! ## From the arguments -/

section Row

variable (P0 P3 : Vec Ideal S12 .i32) (P1 : Vec Ideal S12x16384x6x160 .i8) (P2 : Vec Ideal S12x16384x6 .f32) (P4 P5 : Vec Ideal S12x80 .f32)
  (b : Fin 12) (t : Fin 16384) (h : Fin 6)

/-- Whether the token is below the row's length. -/
def rowValid : BitVec 1 := IntOp.cmpi .slt (BitVec.ofNat 32 t.val) (P0 (ix1 b))
/-- The codes of the first half of a token, -/
def rowLo (x : Fin 80) : BitVec 8 := P1 (ix4 b t h ⟨x.val, by omega⟩)
/-- and of the second. -/
def rowHi (x : Fin 80) : BitVec 8 := P1 (ix4 b t h ⟨80 + x.val, by omega⟩)
/-- The cosine a token uses: the table's from `keep` on, and 1 before. -/
def rowCos (x : Fin 80) : EReal := Scalar.select (IntOp.cmpi .sge (BitVec.ofNat 32 t.val) (P3 (ix1 b))) (P4 (ix2 b x)) 1
/-- The sine a token uses: the table's from `keep` on, and 0 before. -/
def rowSin (x : Fin 80) : EReal := Scalar.select (IntOp.cmpi .sge (BitVec.ofNat 32 t.val) (P3 (ix1 b))) (P5 (ix2 b x)) 0

theorem mul_select_zero (c : BitVec 1) (x a : EReal) : x * Scalar.select c a 0 = Scalar.select c (x * a) 0 := by
  unfold Scalar.select; split
  · rfl
  · exact mul_zero x

/-- The first half of the rotated token, -/
theorem pay9_apply (d : Fin 80) : k0_pay9 (k0_pay2 P0) (k0_pay8 P1 P4 P5 P3 P2) (ix4 b t h d)
    = y1 (rowValid P0 b t) (rowLo P1 b t h) (rowHi P1 b t h) (P2 (ix3 b t h)) (rowCos P3 P4 b t) (rowSin P3 P5 b t) d := by
  unfold y1 rowSin
  rw [mul_select_zero]
  pointwise [k0_pay9, k0_pay2, k0_pay8, k0_pay3, k0_pay4, k0_pay6, k0_pay7, k0_pay5, k0_pay1]
  rfl
/-- and the second. -/
theorem pay10_apply (d : Fin 80) : k0_pay10 (k0_pay2 P0) (k0_pay3 P4 P3) (k0_pay4 P5 P3) (k0_pay6 P1 P2) (k0_pay7 P1 P2) (ix4 b t h d)
    = y2 (rowValid P0 b t) (rowLo P1 b t h) (rowHi P1 b t h) (P2 (ix3 b t h)) (rowCos P3 P4 b t) (rowSin P3 P5 b t) d := by
  unfold y2 rowSin
  rw [mul_select_zero]
  pointwise [k0_pay10, k0_pay2, k0_pay3, k0_pay4, k0_pay6, k0_pay7, k0_pay5, k0_pay1]
  rfl

/-- The new scale from the arguments, -/
theorem newScale_apply : k0_pay11 (k0_pay2 P0) (k0_pay3 P4 P3) (k0_pay4 P5 P3) (k0_pay6 P1 P2) (k0_pay7 P1 P2) (k0_pay8 P1 P4 P5 P3 P2) (ix3 b t h)
    = refScale (rowValid P0 b t) (rowLo P1 b t h) (rowHi P1 b t h) (P2 (ix3 b t h)) (rowCos P3 P4 b t) (rowSin P3 P5 b t) := by
  rw [pay11_apply]; simp only [pay9_apply, pay10_apply]; rfl
/-- and the new code. -/
theorem newCode_apply (d : Fin 160) : k0_pay12 (k0_pay2 P0) (k0_pay3 P4 P3) (k0_pay4 P5 P3) (k0_pay6 P1 P2) (k0_pay7 P1 P2) (k0_pay8 P1 P4 P5 P3 P2) (ix4 b t h d)
    = refCode (rowValid P0 b t) (rowLo P1 b t h) (rowHi P1 b t h) (P2 (ix3 b t h)) (rowCos P3 P4 b t) (rowSin P3 P5 b t) d := by
  rw [pay12_apply]; simp only [pay9_apply, pay10_apply, newScale_apply]; rfl

end Row

end Cert.ReferenceIdeal.Shift

end
-- ==== Proof.ReferenceIdeal.Array.lean ====
/- The reference's two result arrays, element by element, in the arrays its one block is given. -/
module

public import proofs.«01_k».proof.Proof.ReferenceIdeal.Rows
public import proofs.«01_k».proof.Proof.Gen.ReferenceIdeal.Frame
public import Idealize.ShloMosaic.Lib.WholeRead
public import Idealize.ShloMosaic.Lib.Pipeline.ValueKit

@[expose] public section

set_option maxRecDepth 16384

noncomputable section

namespace Cert.ReferenceIdeal.Shift

open Cert.ReferenceIdeal Cert.ReferenceIdeal.Gen Cert.Shift
open Idealize.ShloMosaic Idealize.ShloMosaic.TcCoe Idealize.ShloMosaic.Tactic Idealize.SL.Sem

theorem zero4 : (![0, 0, 0, 0] : Fin 4 → ℕ) = fun _ => 0 := by decide
theorem zero3 : (![0, 0, 0] : Fin 3 → ℕ) = fun _ => 0 := by decide
theorem zero2 : (![0, 0] : Fin 2 → ℕ) = fun _ => 0 := by decide
theorem zero1 : (![0] : Fin 1 → ℕ) = fun _ => 0 := by decide

/-- The whole array of codes the body leaves. -/
theorem outCodes_apply (x0 : Vec Ideal S12x16384x6x160 .i8) (x1 : Vec Ideal S12x16384x6 .f32) (x2 x3 : Vec Ideal S12 .i32)
    (x4 x5 : Vec Ideal S12x80 .f32) (b : Fin 12) (t : Fin 16384) (h : Fin 6) (d : Fin 160) :
    out0_6 x0 x1 x2 x3 x4 x5 (ix4 b t h d)
      = refCode (rowValid x2 b t) (rowLo x0 b t h) (rowHi x0 b t h) (x1 (ix3 b t h)) (rowCos x3 x4 b t) (rowSin x3 x5 b t) d := by
  unfold out0_6 k0_pay18 k0_pay17 k0_pay16 k0_pay15 k0_pay14 k0_pay13
  rw [View.canon_unit_zero zero4]
  have e0 : View.ld x0 r0_0 = x0 := View.ld_unit_zero zero4 _ x0
  have e1 : View.ld x1 r0_3 = x1 := View.ld_unit_zero zero3 _ x1
  have e2 : View.ld x2 r0_2 = x2 := View.ld_unit_zero zero1 _ x2
  have e3 : View.ld x3 r0_2 = x3 := View.ld_unit_zero zero1 _ x3
  have e4 : View.ld x4 r0_1 = x4 := View.ld_unit_zero zero2 _ x4
  have e5 : View.ld x5 r0_1 = x5 := View.ld_unit_zero zero2 _ x5
  rw [e0, e1, e2, e3, e4, e5]
  exact newCode_apply x2 x3 x0 x1 x4 x5 b t h d

/-- The whole array of scales the body leaves. -/
theorem outScales_apply (x0 : Vec Ideal S12x16384x6x160 .i8) (x1 : Vec Ideal S12x16384x6 .f32) (x2 x3 : Vec Ideal S12 .i32)
    (x4 x5 : Vec Ideal S12x80 .f32) (b : Fin 12) (t : Fin 16384) (h : Fin 6) :
    out0_7 x0 x1 x2 x3 x4 x5 (ix3 b t h)
      = refScale (rowValid x2 b t) (rowLo x0 b t h) (rowHi x0 b t h) (x1 (ix3 b t h)) (rowCos x3 x4 b t) (rowSin x3 x5 b t) := by
  unfold out0_7 k0_pay18 k0_pay17 k0_pay16 k0_pay15 k0_pay14 k0_pay13
  rw [View.canon_unit_zero zero3]
  have e0 : View.ld x0 r0_0 = x0 := View.ld_unit_zero zero4 _ x0
  have e1 : View.ld x1 r0_3 = x1 := View.ld_unit_zero zero3 _ x1
  have e2 : View.ld x2 r0_2 = x2 := View.ld_unit_zero zero1 _ x2
  have e3 : View.ld x3 r0_2 = x3 := View.ld_unit_zero zero1 _ x3
  have e4 : View.ld x4 r0_1 = x4 := View.ld_unit_zero zero2 _ x4
  have e5 : View.ld x5 r0_1 = x5 := View.ld_unit_zero zero2 _ x5
  rw [e0, e1, e2, e3, e4, e5]
  exact newScale_apply x2 x3 x0 x1 x4 x5 b t h

variable (m : (ℓ : Loc nD τ sig) → Buf (Elt Ideal) ℓ) (ρ : Dev nD → PrngReg)

/-- A block at index zero, of the size of its array, puts every index at itself. -/
theorem whole_emb (w : Fin 8) (t : Fin grid0.N) (y : ((win0 w).xblock (grid0.coords t)).Idx) (a : Fin (win0 w).shape.rank) :
    ((((win0 w).rect t).emb y a : Fin _) : ℕ) = y a := by
  fin_cases w <;> exact (congrArg (· + 1 * (y a).val) (Nat.zero_mul _)).trans (by omega)

/-- The one block of each array is the array. -/
theorem blk0 (c : Dev nD) (t : Fin cfg0.N) : iblk m c 0 t = V m c main_arg0 :=
  funext fun y => congrArg (V m c main_arg0) (funext fun a => Fin.ext (whole_emb 0 t y a))
theorem blk1 (c : Dev nD) (t : Fin cfg0.N) : iblk m c 1 t = V m c main_arg1 :=
  funext fun y => congrArg (V m c main_arg1) (funext fun a => Fin.ext (whole_emb 1 t y a))
theorem blk2 (c : Dev nD) (t : Fin cfg0.N) : iblk m c 2 t = V m c main_arg2 :=
  funext fun y => congrArg (V m c main_arg2) (funext fun a => Fin.ext (whole_emb 2 t y a))
theorem blk3 (c : Dev nD) (t : Fin cfg0.N) : iblk m c 3 t = V m c main_arg4 :=
  funext fun y => congrArg (V m c main_arg4) (funext fun a => Fin.ext (whole_emb 3 t y a))
theorem blk4 (c : Dev nD) (t : Fin cfg0.N) : iblk m c 4 t = V m c main_v16 :=
  funext fun y => congrArg (V m c main_v16) (funext fun a => Fin.ext (whole_emb 4 t y a))
theorem blk5 (c : Dev nD) (t : Fin cfg0.N) : iblk m c 5 t = V m c main_v17 :=
  funext fun y => congrArg (V m c main_v17) (funext fun a => Fin.ext (whole_emb 5 t y a))

/-- The array of codes after the run, -/
theorem arrCodes (c : Dev nD) : (dats m 0 c).arrAt 6 cfg0.N
    = out0_6 (V m c main_arg0) (V m c main_arg1) (V m c main_arg2) (V m c main_arg4) (V m c main_v16) (V m c main_v17) := by
  refine (dats m 0 c).arrAt_eq_of_covers 6 _ (by decide +kernel) fun t hf y => ?_
  rw [after0_6, blk0, blk1, blk2, blk3, blk4, blk5]
  generalize out0_6 (V m c main_arg0) (V m c main_arg1) (V m c main_arg2) (V m c main_arg4) (V m c main_v16) (V m c main_v17) = G
  exact congrArg G (funext fun a => Fin.ext (whole_emb 6 t y a).symm)
/-- and the array of scales. -/
theorem arrScales (c : Dev nD) : (dats m 0 c).arrAt 7 cfg0.N
    = out0_7 (V m c main_arg0) (V m c main_arg1) (V m c main_arg2) (V m c main_arg4) (V m c main_v16) (V m c main_v17) := by
  refine (dats m 0 c).arrAt_eq_of_covers 7 _ (by decide +kernel) fun t hf y => ?_
  rw [after0_7, blk0, blk1, blk2, blk3, blk4, blk5]
  generalize out0_7 (V m c main_arg0) (V m c main_arg1) (V m c main_arg2) (V m c main_arg4) (V m c main_v16) (V m c main_v17) = G
  exact congrArg G (funext fun a => Fin.ext (whole_emb 7 t y a).symm)

end Cert.ReferenceIdeal.Shift
-- ==== Proof.KernelIdeal.Trip.lean ====
/- One trip of the loop: the arithmetic of one head, and the twelve pieces a trip stores, written with it. -/
module

public import proofs.«01_k».proof.Proof.KernelIdeal.Setup

@[expose] public section

set_option maxRecDepth 16384

noncomputable section

namespace Cert.KernelIdeal.Shift

open Cert.KernelIdeal.Gen

open Idealize.ShloMosaic Idealize.ShloMosaic.TcCoe Idealize.ShloMosaic.Tactic

variable {F : FTy → Type} [FloatOps F]

/-- The new scales of one head over 128 tokens: `valid` marks the tokens below the row's length, `c` and `s` are the
    tables as the tokens use them, `q` the head's codes and `sc` its scales. -/
def headScales (valid : IVec S1x128 1) (c s : FVec F S80x128 .f32) (q : Vec F S1x1x160x128 .i8) (sc : Vec F S1x1x128 .f32) :
    FVec F S1x1x128 .f32 :=
  k0_pay29 (k0_pay27 valid c s (k0_pay22 q) (k0_pay23 q) (k0_pay24 c s q) sc)

/-- The new codes of one head over 128 tokens. -/
def headCodes (valid : IVec S1x128 1) (c s : FVec F S80x128 .f32) (q : Vec F S1x1x160x128 .i8) (sc : Vec F S1x1x128 .f32) :
    IVec S1x1x160x128 8 :=
  k0_pay28 valid c s (k0_pay22 q) (k0_pay23 q) (k0_pay24 c s q) sc

section Pieces

variable (c : Dev nD) (i : grid0.Coords) (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole) (arg8 : Memref sig .tc .vmem S1x6x160x1024 .i8) (harg8 : arg8.IsWhole) (arg9 : Memref sig .tc .vmem S1x6x1024 .f32) (harg9 : arg9.IsWhole)
  (v1 v3 : Elt F .i32) (v4 : BitVec 32)
  (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips)

/-- The tokens of trip `k` below the length `v1`. -/
def validOf : IVec S1x128 1 := k0_pay6 v1 v4 0#32 1#32 k

/-- The cosines the tokens of trip `k` use: the table's where the token is shifted, else 1. -/
def cosOf (x2 : Vec F S1x80x128 .f32) : FVec F S80x128 .f32 := k0_pay7 v3 v4 0#32 1#32 k x2

/-- The sines the tokens of trip `k` use: the table's where the token is shifted, else 0. -/
def sinOf (x3 : Vec F S1x80x128 .f32) : FVec F S80x128 .f32 := k0_pay8 v3 v4 0#32 1#32 k x3

/-- The table as a load of the whole buffer reads it. -/
abbrev tabAt (a : Memref sig .tc .vmem S1x80x128 .f32) (X : BufTy.Contents (Elt F) a.view.ty) : Vec F S1x80x128 .f32 :=
  View.readAt (Elt F) a.view (Rect.unit (s := S1x80x128) ![0, 0, 0] S1x80x128.size inb_S1x80x128_S1x80x128_0_0_0).toLoadRect X

/-- One head's slab of the codes at trip `k`'s rectangle. -/
abbrev codesAt (off : Fin k0_t1_loop.trips → Fin 4 → ℕ) (h : ∀ a, (off k) a + S1x1x160x128.size a ≤ S1x6x160x1024.size a) : Vec F S1x1x160x128 .i8 :=
  View.readAt (Elt F) arg4.view (Rect.unit (s := S1x6x160x1024) (off k) S1x1x160x128.size h).toLoadRect X4

/-- One head's row of the scales at trip `k`'s rectangle. -/
abbrev scalesAt (off : Fin k0_t1_loop.trips → Fin 3 → ℕ) (h : ∀ a, (off k) a + S1x1x128.size a ≤ S1x6x1024.size a) : Vec F S1x1x128 .f32 :=
  View.readAt (Elt F) arg5.view (Rect.unit (s := S1x6x1024) (off k) S1x1x128.size h).toLoadRect X5

/-- The piece of codes one head stores. -/
abbrev pieceCodes (o4 : Fin k0_t1_loop.trips → Fin 4 → ℕ) (h4 : ∀ a, (o4 k) a + S1x1x160x128.size a ≤ S1x6x160x1024.size a)
    (o5 : Fin k0_t1_loop.trips → Fin 3 → ℕ) (h5 : ∀ a, (o5 k) a + S1x1x128.size a ≤ S1x6x1024.size a) : View.Piece (Elt F) S1x6x160x1024 .i8 :=
  ⟨Rect.unit (s := S1x6x160x1024) (o4 k) S1x1x160x128.size h4,
    headCodes (validOf v1 v4 k) (cosOf v3 v4 k (tabAt arg6 X6)) (sinOf v3 v4 k (tabAt arg7 X7)) (codesAt arg4 X4 k o4 h4) (scalesAt arg5 X5 k o5 h5)⟩

/-- The piece of scales one head stores. -/
abbrev pieceScales (o4 : Fin k0_t1_loop.trips → Fin 4 → ℕ) (h4 : ∀ a, (o4 k) a + S1x1x160x128.size a ≤ S1x6x160x1024.size a)
    (o5 : Fin k0_t1_loop.trips → Fin 3 → ℕ) (h5 : ∀ a, (o5 k) a + S1x1x128.size a ≤ S1x6x1024.size a) : View.Piece (Elt F) S1x6x1024 .f32 :=
  ⟨Rect.unit (s := S1x6x1024) (o5 k) S1x1x128.size h5,
    headScales (validOf v1 v4 k) (cosOf v3 v4 k (tabAt arg6 X6)) (sinOf v3 v4 k (tabAt arg7 X7)) (codesAt arg4 X4 k o4 h4) (scalesAt arg5 X5 k o5 h5)⟩

/-- The pieces of codes trip `k` stores: one per head, the last head first. -/
theorem trip_codes :
    (trip_k0_t1 (F := F) Variants.none c none i tbM0_0 htbM0_0 tbM0_1 htbM0_1 arg4 harg4 arg5 harg5 arg6 harg6 arg7 harg7 arg8 harg8 arg9 harg9 v1 v3 v4 X4 X5 X6 X7 k).1
      = [pieceCodes arg4 arg5 arg6 arg7 v1 v3 v4 X4 X5 X6 X7 k k0_off12 (k0_off12_inb k) k0_off13 (k0_off13_inb k),
         pieceCodes arg4 arg5 arg6 arg7 v1 v3 v4 X4 X5 X6 X7 k k0_off10 (k0_off10_inb k) k0_off11 (k0_off11_inb k),
         pieceCodes arg4 arg5 arg6 arg7 v1 v3 v4 X4 X5 X6 X7 k k0_off8 (k0_off8_inb k) k0_off9 (k0_off9_inb k),
         pieceCodes arg4 arg5 arg6 arg7 v1 v3 v4 X4 X5 X6 X7 k k0_off6 (k0_off6_inb k) k0_off7 (k0_off7_inb k),
         pieceCodes arg4 arg5 arg6 arg7 v1 v3 v4 X4 X5 X6 X7 k k0_off4 (k0_off4_inb k) k0_off5 (k0_off5_inb k),
         pieceCodes arg4 arg5 arg6 arg7 v1 v3 v4 X4 X5 X6 X7 k k0_off2 (k0_off2_inb k) k0_off3 (k0_off3_inb k)] := by
  unfold trip_k0_t1
  rfl

/-- The pieces of scales trip `k` stores: one per head, the last head first. -/
theorem trip_scales :
    (trip_k0_t1 (F := F) Variants.none c none i tbM0_0 htbM0_0 tbM0_1 htbM0_1 arg4 harg4 arg5 harg5 arg6 harg6 arg7 harg7 arg8 harg8 arg9 harg9 v1 v3 v4 X4 X5 X6 X7 k).2.1
      = [pieceScales arg4 arg5 arg6 arg7 v1 v3 v4 X4 X5 X6 X7 k k0_off12 (k0_off12_inb k) k0_off13 (k0_off13_inb k),
         pieceScales arg4 arg5 arg6 arg7 v1 v3 v4 X4 X5 X6 X7 k k0_off10 (k0_off10_inb k) k0_off11 (k0_off11_inb k),
         pieceScales arg4 arg5 arg6 arg7 v1 v3 v4 X4 X5 X6 X7 k k0_off8 (k0_off8_inb k) k0_off9 (k0_off9_inb k),
         pieceScales arg4 arg5 arg6 arg7 v1 v3 v4 X4 X5 X6 X7 k k0_off6 (k0_off6_inb k) k0_off7 (k0_off7_inb k),
         pieceScales arg4 arg5 arg6 arg7 v1 v3 v4 X4 X5 X6 X7 k k0_off4 (k0_off4_inb k) k0_off5 (k0_off5_inb k),
         pieceScales arg4 arg5 arg6 arg7 v1 v3 v4 X4 X5 X6 X7 k k0_off2 (k0_off2_inb k) k0_off3 (k0_off3_inb k)] := by
  unfold trip_k0_t1
  rfl

end Pieces

end Cert.KernelIdeal.Shift

end
-- ==== Proof.KernelIdeal.Rows.lean ====
/- One trip of the loop, read at one channel and one token: the head's arithmetic is the row arithmetic of `Spec`. -/
module

public import proofs.«01_k».proof.Proof.KernelIdeal.Trip
public import proofs.«01_k».proof.Proof.Spec
public import Idealize.ShloMosaic.Lib.Pointwise

@[expose] public section

set_option maxRecDepth 16384

noncomputable section

namespace Cert.KernelIdeal.Shift

open Cert.KernelIdeal.Gen Cert.Shift
open Idealize.ShloMosaic Idealize.ShloMosaic.TcCoe Idealize.ShloMosaic.Tactic

section Head

variable (valid : IVec S1x128 1) (c s : FVec Ideal S80x128 .f32) (q : Vec Ideal S1x1x160x128 .i8) (sc : Vec Ideal S1x1x128 .f32)

/-- The codes of the first half at one token, -/
def lo (q : Vec Ideal S1x1x160x128 .i8) (l : Fin 128) (x : Fin 80) : BitVec 8 := q (ix4 0 0 ⟨x.val, by omega⟩ l)
/-- and of the second half. -/
def hi (q : Vec Ideal S1x1x160x128 .i8) (l : Fin 128) (x : Fin 80) : BitVec 8 := q (ix4 0 0 ⟨80 + x.val, by omega⟩ l)

/-- The first half of the rotated codes, -/
theorem pay24 (x : Fin 80) (l : Fin 128) : k0_pay24 c s q (ix2 x l) = r1 (lo q l) (hi q l) (fun x => c (ix2 x l)) (fun x => s (ix2 x l)) x := by
  pointwise [k0_pay24, k0_pay22, k0_pay23, k0_pay21]
  rfl
/-- and the second. -/
theorem pay25 (x : Fin 80) (l : Fin 128) : k0_pay25 c s (k0_pay22 q) (k0_pay23 q) (ix2 x l) = r2 (lo q l) (hi q l) (fun x => c (ix2 x l)) (fun x => s (ix2 x l)) x := by
  pointwise [k0_pay25, k0_pay22, k0_pay23, k0_pay21]
  rfl
/-- The old scale, zeroed where the token is not valid. -/
theorem pay26 (l : Fin 128) : k0_pay26 valid sc (ix2 0 l) = Scalar.select (valid (ix2 0 l)) (sc (ix3 0 0 l)) 0 := by
  pointwise [k0_pay26]
/-- The new scale. -/
theorem pay27 (l : Fin 128) : k0_pay27 valid c s (k0_pay22 q) (k0_pay23 q) (k0_pay24 c s q) sc (ix2 0 l)
    = kerScale (valid (ix2 0 l)) (lo q l) (hi q l) (sc (ix3 0 0 l)) (fun x => c (ix2 x l)) (fun x => s (ix2 x l)) := by
  pointwise [k0_pay27, k0_pay22, k0_pay23, k0_pay24, k0_pay25, k0_pay26, k0_pay21]
  rfl

/-- The scale one head stores for a token. -/
theorem headScales_apply (l : Fin 128) : headScales valid c s q sc (ix3 0 0 l)
    = kerScale (valid (ix2 0 l)) (lo q l) (hi q l) (sc (ix3 0 0 l)) (fun x => c (ix2 x l)) (fun x => s (ix2 x l)) := by
  rw [← pay27]
  unfold headScales
  pointwise [k0_pay29]

/-- The code one head stores for a channel of a token. -/
theorem headCodes_apply (d : Fin 160) (l : Fin 128) : headCodes valid c s q sc (ix4 0 0 d l)
    = kerCode (valid (ix2 0 l)) (lo q l) (hi q l) (sc (ix3 0 0 l)) (fun x => c (ix2 x l)) (fun x => s (ix2 x l)) d := by
  unfold headCodes
  pointwise [k0_pay28]
  simp only [pay24, pay25, pay26, pay27]
  unfold kerCode
  by_cases h : d.val < 80
  · rw [dif_pos h, dif_pos h]; rfl
  · rw [dif_neg h, dif_neg h]; rfl

end Head

section Token

variable (v1 v3 v4 : BitVec 32) (k : Fin k0_t1_loop.trips) (x2 x3 : Vec Ideal S1x80x128 .f32) (d : Fin 80) (l : Fin 128)

/-- A token's number as the loop computes it. -/
def tokWord : BitVec 32 := IntOp.addi (Scalar.addi v4 (Scalar.muli (Scf.iv 0#32 1#32 k.val) 128#32)) (BitVec.ofNat 32 l.val)

/-- A token is valid below the length, -/
theorem validOf_apply : validOf (F := Ideal) v1 v4 k (ix2 0 l) = IntOp.cmpi .slt (tokWord v4 k l) v1 := by
  unfold validOf
  pointwise [k0_pay6, k0_pay4]
  rfl
/-- uses the table's cosine from `keep` on, and 1 before, -/
theorem cosOf_apply : cosOf (F := Ideal) v3 v4 k x2 (ix2 d l) = Scalar.select (IntOp.cmpi .sge (tokWord v4 k l) v3) (x2 (ix3 0 d l)) 1 := by
  unfold cosOf
  pointwise [k0_pay7, k0_pay5, k0_pay4]
  rfl
/-- and the table's sine from `keep` on, and 0 before. -/
theorem sinOf_apply : sinOf (F := Ideal) v3 v4 k x3 (ix2 d l) = Scalar.select (IntOp.cmpi .sge (tokWord v4 k l) v3) (x3 (ix3 0 d l)) 0 := by
  unfold sinOf
  pointwise [k0_pay8, k0_pay5, k0_pay4]
  rfl

/-- The token of block `t`, trip `k`, lane `l` is number `1024 t + 128 k + l`. -/
theorem tokWord_eq (t : Fin 16) : tokWord (Scalar.muli (BitVec.ofNat 32 t.val) 1024#32) k l = BitVec.ofNat 32 (1024 * t.val + (128 * k.val + l.val)) := by
  have hk : k.val < 8 := k.isLt
  have ht := t.isLt
  apply BitVec.eq_of_toNat_eq
  simp only [tokWord, IntOp.addi, Scalar.addi, Scalar.muli, IntOp.muli, Scf.iv, BitVec.toNat_add, BitVec.toNat_mul, BitVec.toNat_ofNat]
  omega

end Token

end Cert.KernelIdeal.Shift

end
-- ==== Proof.KernelIdeal.Pieces.lean ====
/- What the loop's pieces hold, element by element: each is the block's new codes, or its new scales, at the piece's place. -/
module

public import proofs.«01_k».proof.Proof.KernelIdeal.Rows
public import Idealize.ShloMosaic.Lib.WholeRead
public import Idealize.ShloMosaic.Lib.Pipeline.ValueKit

@[expose] public section

set_option maxRecDepth 16384

noncomputable section

namespace Cert.KernelIdeal.Shift

open Cert.KernelIdeal.Gen Cert.Shift
open Idealize.ShloMosaic Idealize.ShloMosaic.TcCoe Idealize.ShloMosaic.Tactic

/-! ## The new block, from the staged ones -/

section Values

variable (t : Fin 16) (len keep : BitVec 32) (x0 : Vec Ideal S1x6x160x1024 .i8) (x1 : Vec Ideal S1x6x1024 .f32) (x2 x3 : Vec Ideal S1x80x128 .f32)
  (h : Fin 6) (l : Fin 1024) (x : Fin 80)

/-- The number of token `l` of block `t`. -/
def tok : BitVec 32 := BitVec.ofNat 32 (1024 * t.val + l.val)
/-- Whether the token is below the length. -/
def rowValid : BitVec 1 := IntOp.cmpi .slt (tok t l) len
/-- The codes of the first half of a token, -/
def rowLo : BitVec 8 := x0 (ix4 0 h ⟨x.val, by omega⟩ l)
/-- and of the second. -/
def rowHi : BitVec 8 := x0 (ix4 0 h ⟨80 + x.val, by omega⟩ l)
/-- The cosine a token uses: the table's from `keep` on, and 1 before. -/
def rowCos : EReal := Scalar.select (IntOp.cmpi .sge (tok t l) keep) (x2 (ix3 0 x ⟨l.val % 128, by omega⟩)) 1
/-- The sine a token uses: the table's from `keep` on, and 0 before. -/
def rowSin : EReal := Scalar.select (IntOp.cmpi .sge (tok t l) keep) (x3 (ix3 0 x ⟨l.val % 128, by omega⟩)) 0

/-- The new scale of one head at one token of the block. -/
def scaleAt : EReal :=
  kerScale (rowValid t len l) (rowLo x0 h l) (rowHi x0 h l) (x1 (ix3 0 h l)) (rowCos t keep x2 l) (rowSin t keep x3 l)
/-- The new code of one channel of one head at one token of the block. -/
def codeAt (d : Fin 160) : BitVec 8 :=
  kerCode (rowValid t len l) (rowLo x0 h l) (rowHi x0 h l) (x1 (ix3 0 h l)) (rowCos t keep x2 l) (rowSin t keep x3 l) d

/-- The new scales of the block, -/
def blockScale : Vec Ideal S1x6x1024 .f32 := fun y => scaleAt t len keep x0 x1 x2 x3 (y 1) (y 2)
/-- and its new codes. -/
def blockCode : Vec Ideal S1x6x160x1024 .i8 := fun y => codeAt t len keep x0 x1 x2 x3 (y 1) (y 3) (y 2)

end Values

/-! ## A trip's loads -/

/-- The lane of the block that lane `l` of trip `k` is. -/
def lane (k : Fin k0_t1_loop.trips) (l : Fin 128) : Fin 1024 := ⟨128 * k.val + l.val, by have : k.val < 8 := k.isLt; omega⟩

theorem lane_mod (k : Fin k0_t1_loop.trips) (l : Fin 128) : (⟨(lane k l).val % 128, by omega⟩ : Fin 128) = l :=
  Fin.ext (by show (128 * k.val + l.val) % 128 = l.val; omega)

theorem tok_lane (t : Fin 16) (k : Fin k0_t1_loop.trips) (l : Fin 128) :
    tokWord (Scalar.muli (BitVec.ofNat 32 t.val) 1024#32) k l = tok t (lane k l) := tokWord_eq k l t

/-- The place of a piece of codes, -/
theorem place_codes (k : Fin k0_t1_loop.trips) (h : Fin 6) {o : Fin 4 → ℕ} (ho : o = ![0, h.val, 0, 128 * k.val])
    (hin : ∀ a, o a + S1x1x160x128.size a ≤ S1x6x160x1024.size a) (d : Fin 160) (l : Fin 128) :
    (Rect.unit (s := S1x6x160x1024) o S1x1x160x128.size hin).emb (ix4 0 0 d l) = (ix4 0 h d (lane k l) : S1x6x160x1024.Idx) := by
  subst ho
  funext a; apply Fin.ext; rw [ValueKit.rect_emb_unit_val]
  match a with
  | 0 => rfl
  | 1 => rfl
  | 2 => exact Nat.zero_add _
  | 3 => rfl
/-- and of a piece of scales. -/
theorem place_scales (k : Fin k0_t1_loop.trips) (h : Fin 6) {o : Fin 3 → ℕ} (ho : o = ![0, h.val, 128 * k.val])
    (hin : ∀ a, o a + S1x1x128.size a ≤ S1x6x1024.size a) (l : Fin 128) :
    (Rect.unit (s := S1x6x1024) o S1x1x128.size hin).emb (ix3 0 0 l) = (ix3 0 h (lane k l) : S1x6x1024.Idx) := by
  subst ho
  funext a; apply Fin.ext; rw [ValueKit.rect_emb_unit_val]
  match a with
  | 0 => rfl
  | 1 => rfl
  | 2 => rfl

/-- A table loaded whole is the table. -/
theorem tabAt_unread (a : Memref sig .tc .vmem S1x80x128 .f32) (ha : a.IsWhole) (x : Vec Ideal S1x80x128 .f32) :
    tabAt a (ha.unread x) = x := by
  funext y
  refine (ha.readAt_unread x (Rect.unit (s := S1x80x128) ![0, 0, 0] S1x80x128.size inb_S1x80x128_S1x80x128_0_0_0).toLoadRect y).trans (congrArg x (funext fun b => Fin.ext ?_))
  rw [Rect.idx_unit_val]
  match b with
  | 0 => exact Nat.zero_add _
  | 1 => exact Nat.zero_add _
  | 2 => exact Nat.zero_add _

section Pieces

variable (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole)
  (t : Fin 16) (len keep : BitVec 32) (x0 : Vec Ideal S1x6x160x1024 .i8) (x1 : Vec Ideal S1x6x1024 .f32) (x2 x3 : Vec Ideal S1x80x128 .f32)
  (k : Fin k0_t1_loop.trips) (h : Fin 6)
  {o4 : Fin k0_t1_loop.trips → Fin 4 → ℕ} (e4 : o4 k = ![0, h.val, 0, 128 * k.val]) (h4 : ∀ a, (o4 k) a + S1x1x160x128.size a ≤ S1x6x160x1024.size a)
  {o5 : Fin k0_t1_loop.trips → Fin 3 → ℕ} (e5 : o5 k = ![0, h.val, 128 * k.val]) (h5 : ∀ a, (o5 k) a + S1x1x128.size a ≤ S1x6x1024.size a)

include e4 in
/-- A head's slab of codes at an element, -/
theorem codesAt_apply (d : Fin 160) (l : Fin 128) : codesAt arg4 (harg4.unread x0) k o4 h4 (ix4 0 0 d l) = x0 (ix4 0 h d (lane k l)) :=
  (harg4.readAt_unread x0 _ _).trans (congrArg x0 (place_codes k h e4 h4 d l))
include e5 in
/-- and a head's row of scales. -/
theorem scalesAt_apply (l : Fin 128) : scalesAt arg5 (harg5.unread x1) k o5 h5 (ix3 0 0 l) = x1 (ix3 0 h (lane k l)) :=
  (harg5.readAt_unread x1 _ _).trans (congrArg x1 (place_scales k h e5 h5 l))

include e4 e5 in
/-- What one head stores as codes at an element, -/
theorem pieceCodes_apply (x : S1x1x160x128.Idx) :
    (pieceCodes arg4 arg5 arg6 arg7 len keep (Scalar.muli (BitVec.ofNat 32 t.val) 1024#32) (harg4.unread x0) (harg5.unread x1) (harg6.unread x2) (harg7.unread x3) k o4 h4 o5 h5).2 x
      = blockCode t len keep x0 x1 x2 x3 ((Rect.unit (s := S1x6x160x1024) (o4 k) S1x1x160x128.size h4).emb x) := by
  obtain ⟨d, l, rfl⟩ : ∃ (d : Fin 160) (l : Fin 128), x = ix4 0 0 d l :=
    ⟨x 2, x 3, (eq_ix4 x).trans (by rw [show x 0 = (0 : Fin 1) from Subsingleton.elim (α := Fin 1) _ _, show x 1 = (0 : Fin 1) from Subsingleton.elim (α := Fin 1) _ _])⟩
  rw [place_codes k h e4 h4 d l]
  show headCodes _ _ _ _ _ (ix4 0 0 d l) = codeAt t len keep x0 x1 x2 x3 h (lane k l) d
  rw [headCodes_apply, scalesAt_apply arg5 harg5 x1 k h e5 h5 l, validOf_apply, tok_lane]
  have q1 : lo (codesAt arg4 (harg4.unread x0) k o4 h4) l = rowLo x0 h (lane k l) := funext fun x => codesAt_apply arg4 harg4 x0 k h e4 h4 _ l
  have q2 : hi (codesAt arg4 (harg4.unread x0) k o4 h4) l = rowHi x0 h (lane k l) := funext fun x => codesAt_apply arg4 harg4 x0 k h e4 h4 _ l
  have c : (fun x => cosOf (F := Ideal) keep (Scalar.muli (BitVec.ofNat 32 t.val) 1024#32) k (tabAt arg6 (harg6.unread x2)) (ix2 x l)) = rowCos t keep x2 (lane k l) := by
    funext x; rw [cosOf_apply, tok_lane, tabAt_unread]; unfold rowCos; rw [lane_mod]
  have s : (fun x => sinOf (F := Ideal) keep (Scalar.muli (BitVec.ofNat 32 t.val) 1024#32) k (tabAt arg7 (harg7.unread x3)) (ix2 x l)) = rowSin t keep x3 (lane k l) := by
    funext x; rw [sinOf_apply, tok_lane, tabAt_unread]; unfold rowSin; rw [lane_mod]
  rw [q1, q2, c, s]
  rfl

include e4 e5 in
/-- and as scales. -/
theorem pieceScales_apply (x : S1x1x128.Idx) :
    (pieceScales arg4 arg5 arg6 arg7 len keep (Scalar.muli (BitVec.ofNat 32 t.val) 1024#32) (harg4.unread x0) (harg5.unread x1) (harg6.unread x2) (harg7.unread x3) k o4 h4 o5 h5).2 x
      = blockScale t len keep x0 x1 x2 x3 ((Rect.unit (s := S1x6x1024) (o5 k) S1x1x128.size h5).emb x) := by
  obtain ⟨l, rfl⟩ : ∃ (l : Fin 128), x = ix3 0 0 l :=
    ⟨x 2, (eq_ix3 x).trans (by rw [show x 0 = (0 : Fin 1) from Subsingleton.elim (α := Fin 1) _ _, show x 1 = (0 : Fin 1) from Subsingleton.elim (α := Fin 1) _ _])⟩
  rw [place_scales k h e5 h5 l]
  show (headScales (F := Ideal) _ _ _ _ _ (ix3 0 0 l) : EReal) = scaleAt t len keep x0 x1 x2 x3 h (lane k l)
  rw [headScales_apply, scalesAt_apply arg5 harg5 x1 k h e5 h5 l, validOf_apply, tok_lane]
  have q1 : lo (codesAt arg4 (harg4.unread x0) k o4 h4) l = rowLo x0 h (lane k l) := funext fun x => codesAt_apply arg4 harg4 x0 k h e4 h4 _ l
  have q2 : hi (codesAt arg4 (harg4.unread x0) k o4 h4) l = rowHi x0 h (lane k l) := funext fun x => codesAt_apply arg4 harg4 x0 k h e4 h4 _ l
  have c : (fun x => cosOf (F := Ideal) keep (Scalar.muli (BitVec.ofNat 32 t.val) 1024#32) k (tabAt arg6 (harg6.unread x2)) (ix2 x l)) = rowCos t keep x2 (lane k l) := by
    funext x; rw [cosOf_apply, tok_lane, tabAt_unread]; unfold rowCos; rw [lane_mod]
  have s : (fun x => sinOf (F := Ideal) keep (Scalar.muli (BitVec.ofNat 32 t.val) 1024#32) k (tabAt arg7 (harg7.unread x3)) (ix2 x l)) = rowSin t keep x3 (lane k l) := by
    funext x; rw [sinOf_apply, tok_lane, tabAt_unread]; unfold rowSin; rw [lane_mod]
  rw [q1, q2, c, s]
  rfl

end Pieces

end Cert.KernelIdeal.Shift

end
-- ==== Proof.KernelIdeal.Block.lean ====
/- What the body leaves in each output buffer, element by element: the loop's row values where the block starts below the
   length, and zeros and ones elsewhere. -/
module

public import proofs.«01_k».proof.Proof.KernelIdeal.Pieces
public import proofs.«01_k».proof.Proof.KernelIdeal.Cover

@[expose] public section

set_option maxRecDepth 16384

noncomputable section

namespace Cert.KernelIdeal.Shift

open Cert.KernelIdeal.Gen Cert.Shift
open Idealize.ShloMosaic Idealize.ShloMosaic.TcCoe Idealize.ShloMosaic.Tactic

variable (c : Dev nD) (i : grid0.Coords) (arg4 : Memref sig .tc .vmem S1x6x160x1024 .i8) (harg4 : arg4.IsWhole) (arg5 : Memref sig .tc .vmem S1x6x1024 .f32) (harg5 : arg5.IsWhole) (arg6 : Memref sig .tc .vmem S1x80x128 .f32) (harg6 : arg6.IsWhole) (arg7 : Memref sig .tc .vmem S1x80x128 .f32) (harg7 : arg7.IsWhole) (arg8 : Memref sig .tc .vmem S1x6x160x1024 .i8) (harg8 : arg8.IsWhole) (arg9 : Memref sig .tc .vmem S1x6x1024 .f32) (harg9 : arg9.IsWhole)
  (x0 : Vec Ideal S1x6x160x1024 .i8) (x1 : Vec Ideal S1x6x1024 .f32) (x2 x3 : Vec Ideal S1x80x128 .f32)

section Loop

variable (len keep : BitVec 32)

/-- Every piece of codes one trip stores holds the block's new codes. -/
theorem tripCodes_agree (k : Fin k0_t1_loop.trips) : ∀ p ∈ (trip_k0_t1 (F := Ideal) Variants.none c none i tbM0_0 htbM0_0 tbM0_1 htbM0_1 arg4 harg4 arg5 harg5 arg6 harg6 arg7 harg7 arg8 harg8 arg9 harg9 len keep (Scalar.muli (BitVec.ofNat 32 (i 1).val) 1024#32) (harg4.unread x0) (harg5.unread x1) (harg6.unread x2) (harg7.unread x3) k).1,
    ∀ x : p.1.shape.Idx, p.2 x = blockCode (i 1) len keep x0 x1 x2 x3 (p.1.emb x) := by
  rw [trip_codes c i arg4 harg4 arg5 harg5 arg6 harg6 arg7 harg7 arg8 harg8 arg9 harg9 len keep (Scalar.muli (BitVec.ofNat 32 (i 1).val) 1024#32) (harg4.unread x0) (harg5.unread x1) (harg6.unread x2) (harg7.unread x3) k]
  intro p hp
  simp only [List.mem_cons, List.not_mem_nil, or_false] at hp
  rcases hp with rfl | rfl | rfl | rfl | rfl | rfl <;> intro x
  · exact pieceCodes_apply arg4 harg4 arg5 harg5 arg6 harg6 arg7 harg7 (i 1) len keep x0 x1 x2 x3 k 5 (k0_off12_eq k) _ (k0_off13_eq k) _ x
  · exact pieceCodes_apply arg4 harg4 arg5 harg5 arg6 harg6 arg7 harg7 (i 1) len keep x0 x1 x2 x3 k 4 (k0_off10_eq k) _ (k0_off11_eq k) _ x
  · exact pieceCodes_apply arg4 harg4 arg5 harg5 arg6 harg6 arg7 harg7 (i 1) len keep x0 x1 x2 x3 k 3 (k0_off8_eq k) _ (k0_off9_eq k) _ x
  · exact pieceCodes_apply arg4 harg4 arg5 harg5 arg6 harg6 arg7 harg7 (i 1) len keep x0 x1 x2 x3 k 2 (k0_off6_eq k) _ (k0_off7_eq k) _ x
  · exact pieceCodes_apply arg4 harg4 arg5 harg5 arg6 harg6 arg7 harg7 (i 1) len keep x0 x1 x2 x3 k 1 (k0_off4_eq k) _ (k0_off5_eq k) _ x
  · exact pieceCodes_apply arg4 harg4 arg5 harg5 arg6 harg6 arg7 harg7 (i 1) len keep x0 x1 x2 x3 k 0 (k0_off2_eq k) _ (k0_off3_eq k) _ x

/-- Every piece of scales one trip stores holds the block's new scales. -/
theorem tripScales_agree (k : Fin k0_t1_loop.trips) : ∀ p ∈ (trip_k0_t1 (F := Ideal) Variants.none c none i tbM0_0 htbM0_0 tbM0_1 htbM0_1 arg4 harg4 arg5 harg5 arg6 harg6 arg7 harg7 arg8 harg8 arg9 harg9 len keep (Scalar.muli (BitVec.ofNat 32 (i 1).val) 1024#32) (harg4.unread x0) (harg5.unread x1) (harg6.unread x2) (harg7.unread x3) k).2.1,
    ∀ x : p.1.shape.Idx, p.2 x = blockScale (i 1) len keep x0 x1 x2 x3 (p.1.emb x) := by
  rw [trip_scales c i arg4 harg4 arg5 harg5 arg6 harg6 arg7 harg7 arg8 harg8 arg9 harg9 len keep (Scalar.muli (BitVec.ofNat 32 (i 1).val) 1024#32) (harg4.unread x0) (harg5.unread x1) (harg6.unread x2) (harg7.unread x3) k]
  intro p hp
  simp only [List.mem_cons, List.not_mem_nil, or_false] at hp
  rcases hp with rfl | rfl | rfl | rfl | rfl | rfl <;> intro x
  · exact pieceScales_apply arg4 harg4 arg5 harg5 arg6 harg6 arg7 harg7 (i 1) len keep x0 x1 x2 x3 k 5 (k0_off12_eq k) _ (k0_off13_eq k) _ x
  · exact pieceScales_apply arg4 harg4 arg5 harg5 arg6 harg6 arg7 harg7 (i 1) len keep x0 x1 x2 x3 k 4 (k0_off10_eq k) _ (k0_off11_eq k) _ x
  · exact pieceScales_apply arg4 harg4 arg5 harg5 arg6 harg6 arg7 harg7 (i 1) len keep x0 x1 x2 x3 k 3 (k0_off8_eq k) _ (k0_off9_eq k) _ x
  · exact pieceScales_apply arg4 harg4 arg5 harg5 arg6 harg6 arg7 harg7 (i 1) len keep x0 x1 x2 x3 k 2 (k0_off6_eq k) _ (k0_off7_eq k) _ x
  · exact pieceScales_apply arg4 harg4 arg5 harg5 arg6 harg6 arg7 harg7 (i 1) len keep x0 x1 x2 x3 k 1 (k0_off4_eq k) _ (k0_off5_eq k) _ x
  · exact pieceScales_apply arg4 harg4 arg5 harg5 arg6 harg6 arg7 harg7 (i 1) len keep x0 x1 x2 x3 k 0 (k0_off2_eq k) _ (k0_off3_eq k) _ x

/-- So does every piece the first `n` trips store. -/
theorem loop_agree : ∀ n, n ≤ k0_t1_loop.trips →
    (∀ p ∈ (pb_k0_t1 (F := Ideal) Variants.none c none i tbM0_0 htbM0_0 tbM0_1 htbM0_1 arg4 harg4 arg5 harg5 arg6 harg6 arg7 harg7 arg8 harg8 arg9 harg9 len keep (Scalar.muli (BitVec.ofNat 32 (i 1).val) 1024#32) (harg4.unread x0) (harg5.unread x1) (harg6.unread x2) (harg7.unread x3) n).1, ∀ x : p.1.shape.Idx, p.2 x = blockCode (i 1) len keep x0 x1 x2 x3 (p.1.emb x))
    ∧ (∀ p ∈ (pb_k0_t1 (F := Ideal) Variants.none c none i tbM0_0 htbM0_0 tbM0_1 htbM0_1 arg4 harg4 arg5 harg5 arg6 harg6 arg7 harg7 arg8 harg8 arg9 harg9 len keep (Scalar.muli (BitVec.ofNat 32 (i 1).val) 1024#32) (harg4.unread x0) (harg5.unread x1) (harg6.unread x2) (harg7.unread x3) n).2, ∀ x : p.1.shape.Idx, p.2 x = blockScale (i 1) len keep x0 x1 x2 x3 (p.1.emb x))
  | 0, _ => ⟨fun p hp => absurd hp List.not_mem_nil, fun p hp => absurd hp List.not_mem_nil⟩
  | n + 1, hn => by
    have ih := loop_agree n (Nat.le_of_succ_le hn)
    rw [pb_k0_t1_succ (F := Ideal) Variants.none c none i tbM0_0 htbM0_0 tbM0_1 htbM0_1 arg4 harg4 arg5 harg5 arg6 harg6 arg7 harg7 arg8 harg8 arg9 harg9 len keep (Scalar.muli (BitVec.ofNat 32 (i 1).val) 1024#32) (harg4.unread x0) (harg5.unread x1) (harg6.unread x2) (harg7.unread x3) ⟨n, hn⟩]
    exact ⟨fun p hp => (List.mem_append.1 hp).elim (tripCodes_agree c i arg4 harg4 arg5 harg5 arg6 harg6 arg7 harg7 arg8 harg8 arg9 harg9 x0 x1 x2 x3 len keep ⟨n, hn⟩ p) (ih.1 p),
      fun p hp => (List.mem_append.1 hp).elim (tripScales_agree c i arg4 harg4 arg5 harg5 arg6 harg6 arg7 harg7 arg8 harg8 arg9 harg9 x0 x1 x2 x3 len keep ⟨n, hn⟩ p) (ih.2 p)⟩

end Loop

section Body

variable (xt0 : TbBuf0 (F := Ideal) c tbM0_0) (xt1 : TbBuf0 (F := Ideal) c tbM0_1)

section Compute

variable (hc1 : ¬ k0_cond1 i (lenWord c i xt0) = 1#1) (hc2 : k0_cond2 i (lenWord c i xt0) = 1#1)

/-- The body's pieces of codes, where the block starts below the length, are the loop's; -/
theorem runCompute_codes : (runCompute c i arg4 harg4 arg5 harg5 arg6 harg6 arg7 harg7 arg8 harg8 arg9 harg9 x0 x1 x2 x3 xt0 xt1 hc1 hc2).1
    = (pb_k0_t1 (F := Ideal) Variants.none c none i tbM0_0 htbM0_0 tbM0_1 htbM0_1 arg4 harg4 arg5 harg5 arg6 harg6 arg7 harg7 arg8 harg8 arg9 harg9 (lenWord c i xt0) (keepWord c i xt1) (Scalar.muli (BitVec.ofNat 32 (i 1).val) 1024#32) (harg4.unread x0) (harg5.unread x1) (harg6.unread x2) (harg7.unread x3) k0_t1_loop.trips).1 := by
  unfold runCompute; rfl
/-- and its pieces of scales. -/
theorem runCompute_scales : (runCompute c i arg4 harg4 arg5 harg5 arg6 harg6 arg7 harg7 arg8 harg8 arg9 harg9 x0 x1 x2 x3 xt0 xt1 hc1 hc2).2.1
    = (pb_k0_t1 (F := Ideal) Variants.none c none i tbM0_0 htbM0_0 tbM0_1 htbM0_1 arg4 harg4 arg5 harg5 arg6 harg6 arg7 harg7 arg8 harg8 arg9 harg9 (lenWord c i xt0) (keepWord c i xt1) (Scalar.muli (BitVec.ofNat 32 (i 1).val) 1024#32) (harg4.unread x0) (harg5.unread x1) (harg6.unread x2) (harg7.unread x3) k0_t1_loop.trips).2 := by
  unfold runCompute; rfl

/-- The codes' buffer after the body. -/
theorem outCompute_4_eq : outCompute_4 c i arg4 harg4 arg5 harg5 arg6 harg6 arg7 harg7 arg8 harg8 arg9 harg9 x0 x1 x2 x3 xt0 xt1 hc1 hc2
    = blockCode (i 1) (lenWord c i xt0) (keepWord c i xt1) x0 x1 x2 x3 := by
  funext y
  unfold outCompute_4
  refine View.read_writes_apply_of_pieces _ _ _ _ (fun p hp => ?_) y (coverCompute_4 c i arg4 harg4 arg5 harg5 arg6 harg6 arg7 harg7 arg8 harg8 arg9 harg9 x0 x1 x2 x3 xt0 xt1 hc1 hc2 y)
  rw [runCompute_codes] at hp
  exact (loop_agree c i arg4 harg4 arg5 harg5 arg6 harg6 arg7 harg7 arg8 harg8 arg9 harg9 x0 x1 x2 x3 _ _ _ le_rfl).1 p hp
/-- The scales' buffer after the body. -/
theorem outCompute_5_eq : outCompute_5 c i arg4 harg4 arg5 harg5 arg6 harg6 arg7 harg7 arg8 harg8 arg9 harg9 x0 x1 x2 x3 xt0 xt1 hc1 hc2
    = blockScale (i 1) (lenWord c i xt0) (keepWord c i xt1) x0 x1 x2 x3 := by
  funext y
  unfold outCompute_5
  refine View.read_writes_apply_of_pieces _ _ _ _ (fun p hp => ?_) y (coverCompute_5 c i arg4 harg4 arg5 harg5 arg6 harg6 arg7 harg7 arg8 harg8 arg9 harg9 x0 x1 x2 x3 xt0 xt1 hc1 hc2 y)
  rw [runCompute_scales] at hp
  exact (loop_agree c i arg4 harg4 arg5 harg5 arg6 harg6 arg7 harg7 arg8 harg8 arg9 harg9 x0 x1 x2 x3 _ _ _ le_rfl).2 p hp

end Compute

section Skip

variable (hc1 : k0_cond1 i (lenWord c i xt0) = 1#1) (hc2 : ¬ k0_cond2 i (lenWord c i xt0) = 1#1)

/-- Elsewhere the codes' buffer holds zeros, -/
theorem outSkip_4_eq : outSkip_4 c i arg4 harg4 arg5 harg5 arg6 harg6 arg7 harg7 arg8 harg8 arg9 harg9 x0 x1 x2 x3 xt0 xt1 hc1 hc2 = fun _ => 0#8 := by
  funext y
  unfold outSkip_4
  refine View.read_writes_apply_of_pieces _ _ (fun _ => 0#8) _ (fun p hp => ?_) y (coverSkip_4 c i arg4 harg4 arg5 harg5 arg6 harg6 arg7 harg7 arg8 harg8 arg9 harg9 x0 x1 x2 x3 xt0 xt1 hc1 hc2 y)
  unfold runSkip at hp
  obtain rfl := List.mem_singleton.1 hp
  intro x
  pointwise [k0_pay1]
/-- and the scales' buffer ones. -/
theorem outSkip_5_eq : outSkip_5 c i arg4 harg4 arg5 harg5 arg6 harg6 arg7 harg7 arg8 harg8 arg9 harg9 x0 x1 x2 x3 xt0 xt1 hc1 hc2 = fun _ => (1 : EReal) := by
  funext y
  unfold outSkip_5
  refine View.read_writes_apply_of_pieces _ _ (fun _ => (1 : EReal)) _ (fun p hp => ?_) y (coverSkip_5 c i arg4 harg4 arg5 harg5 arg6 harg6 arg7 harg7 arg8 harg8 arg9 harg9 x0 x1 x2 x3 xt0 xt1 hc1 hc2 y)
  unfold runSkip at hp
  obtain rfl := List.mem_singleton.1 hp
  intro x
  pointwise [k0_pay2]

end Skip

end Body

end Cert.KernelIdeal.Shift

end
-- ==== Proof.KernelIdeal.Host.lean ====
/- The arrays the host hands to the kernel: the transposed codes and scales, and the tables of cosines and sines. -/
module

public import proofs.«01_k».proof.Proof.KernelIdeal.Setup
public import Idealize.ShloMosaic.Lib.Pointwise
public import Idealize.ShloMosaic.Lib.StableHlo.ReadAt

@[expose] public section

set_option maxRecDepth 16384

noncomputable section

namespace Cert.KernelIdeal.Shift

open Cert.KernelIdeal Cert.KernelIdeal.Gen
open Idealize.ShloMosaic Idealize.ShloMosaic.TcCoe Idealize.ShloMosaic.Tactic

/-- The angle of each pair of channels in each batch, as the host computes it from the shifts. -/
def angles (D : IVec S12 32) : FVec Ideal S12x80 .f32 :=
  mulf (broadcastInDim S12x80 ![0, 1] bcast_S12x1_S12x80_0_1 (broadcastInDim S12x1 ![0] bcast_S12_S12x1_0 (sitofp .f32 D)))
    (broadcastInDim S12x80 ![0, 1] bcast_S1x80_S12x80_0_1 (broadcastInDim S1x80 ![1] bcast_S80_S1x80_1
      (Host.powf (broadcastInDim S80 ![] bcast_S_S80 (constant S_ .f32 0x48F42400#32))
        (Host.divf (Host.negf (addf (broadcastInDim S80 ![] bcast_S_S80 (constant S_ .f32 0x00000000#32))
            (mulf (broadcastInDim S80 ![] bcast_S_S80 (constant S_ .f32 0x40000000#32)) (sitofp .f32 (iotaInDim S80 32 0)))))
          (broadcastInDim S80 ![] bcast_S_S80 (constant S_ .f32 0x43200000#32))))))

/-- Their cosines, -/
def cosines (D : IVec S12 32) : FVec Ideal S12x80 .f32 := Host.cos (angles D)
/-- and their sines. -/
def sines (D : IVec S12 32) : FVec Ideal S12x80 .f32 := Host.sin (angles D)

/-- Every angle is a real number. -/
theorem angles_apply (D : IVec S12 32) (b : Fin 12) (x : Fin 80) : ∃ r : ℝ, angles D (ix2 b x) = (r : EReal) := by
  unfold angles
  pointwise
  have h1 : Ideal.ofBits .f32 1223959552#32 = ((500000 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  have h3 : Ideal.ofBits .f32 1126170624#32 = ((160 : ℝ) : EReal) := by
    simp [Ideal.ofBits, Ideal.ieee, -EReal.coe_mul]; norm_num
  have hs : ∀ z : BitVec 32, (FloatOps.sitofp (F := Ideal) .f32 z : EReal) = ((z.toInt : ℝ) : EReal) := fun _ => rfl
  have hd : ∀ r : ℝ, Ideal.div (r : EReal) ((160 : ℝ) : EReal) = ((r * (160 : ℝ)⁻¹ : ℝ) : EReal) := fun r => by
    rw [Ideal.div, if_neg (by rw [← EReal.coe_zero, EReal.coe_eq_coe_iff]; norm_num), EReal.coe_mul, EReal.coe_inv]
  rw [h1, h2, h3, hs, hs, ← EReal.coe_mul, ← EReal.coe_neg, hd]
  exact ⟨_, (EReal.coe_mul _ _).symm⟩

/-- So the cosine and the sine of each are real numbers, and not both zero. -/
theorem trig (D : IVec S12 32) (b : Fin 12) (x : Fin 80) :
    ∃ p q : ℝ, cosines D (ix2 b x) = (p : EReal) ∧ sines D (ix2 b x) = (q : EReal) ∧ (p ≠ 0 ∨ q ≠ 0) := by
  obtain ⟨r, hr⟩ := angles_apply D b x
  refine ⟨Real.cos r, Real.sin r, ?_, ?_, ?_⟩
  · show Ideal.cos (angles D (ix2 b x)) = _
    rw [hr]; rfl
  · show Ideal.sin (angles D (ix2 b x)) = _
    rw [hr]; rfl
  · by_contra hn
    push Not at hn
    have := Real.sin_sq_add_cos_sq r
    rw [hn.1, hn.2] at this
    norm_num at this

variable (m : (ℓ : Loc nD τ sig) → Buf (Elt Ideal) ℓ)

/-- The table of cosines, -/
theorem cos_table (c : Dev nD) : V m c main_v18 = broadcastInDim S12x80x128 ![0, 1, 2] bcast_S12x80x1_S12x80x128_0_1_2
    (broadcastInDim S12x80x1 ![0, 1] bcast_S12x80_S12x80x1_0_1 (cosines (m ((c : Thread nD τ).loc main_arg3)))) := by
  show StableHlo.after hostOps0 (fun b => m (c, b)) (Proc.devRef .tc main_v18) = _
  after_results_simp
  rfl

theorem cos_apply (c : Dev nD) (b : Fin 12) (x : Fin 80) (l : Fin 128) :
    V m c main_v18 (ix3 b x l) = cosines (m ((c : Thread nD τ).loc main_arg3)) (ix2 b x) := by
  rw [cos_table]; pointwise

/-- and of sines. -/
theorem sin_table (c : Dev nD) : V m c main_v21 = broadcastInDim S12x80x128 ![0, 1, 2] bcast_S12x80x1_S12x80x128_0_1_2
    (broadcastInDim S12x80x1 ![0, 1] bcast_S12x80_S12x80x1_0_1 (sines (m ((c : Thread nD τ).loc main_arg3)))) := by
  show StableHlo.after hostOps0 (fun b => m (c, b)) (Proc.devRef .tc main_v21) = _
  after_results_simp
  rfl

theorem sin_apply (c : Dev nD) (b : Fin 12) (x : Fin 80) (l : Fin 128) :
    V m c main_v21 (ix3 b x l) = sines (m ((c : Thread nD τ).loc main_arg3)) (ix2 b x) := by
  rw [sin_table]; pointwise

/-- The codes, with the tokens last, -/
theorem codes_apply (c : Dev nD) (b : Fin 12) (h : Fin 6) (d : Fin 160) (t : Fin 16384) :
    V m c main_v22 (ix4 b h d t) = m ((c : Thread nD τ).loc main_arg0) (ix4 b t h d) := by
  have e : V m c main_v22 = transpose S12x6x160x16384 [0, 2, 3, 1] (m ((c : Thread nD τ).loc main_arg0)) transposes_S12x16384x6x160_S12x6x160x16384_0_2_3_1 := by
    show StableHlo.after hostOps0 (fun b => m (c, b)) (Proc.devRef .tc main_v22) = _
    after_results_simp
  rw [e]; pointwise

/-- and the scales. -/
theorem scales_apply (c : Dev nD) (b : Fin 12) (h : Fin 6) (t : Fin 16384) :
    V m c main_v23 (ix3 b h t) = m ((c : Thread nD τ).loc main_arg1) (ix3 b t h) := by
  have e : V m c main_v23 = transpose S12x6x16384 [0, 2, 1] (m ((c : Thread nD τ).loc main_arg1)) transposes_S12x16384x6_S12x6x16384_0_2_1 := by
    show StableHlo.after hostOps0 (fun b => m (c, b)) (Proc.devRef .tc main_v23) = _
    after_results_simp
  rw [e]; pointwise

end Cert.KernelIdeal.Shift
-- ==== Proof.KernelIdeal.Index.lean ====
/- Words of the kernel's index maps and branch conditions, as integers. -/
module

public import proofs.«01_k».proof.Proof.KernelIdeal.Tables

@[expose] public section

noncomputable section

namespace Cert.KernelIdeal.Shift

open Cert.KernelIdeal Cert.KernelIdeal.Gen
open Idealize.ShloMosaic Idealize.ShloMosaic.TcCoe Idealize.ShloMosaic.Tactic

theorem toInt_small (n : ℕ) (hn : n < 2147483648) : (BitVec.ofNat 32 n).toInt = n := by
  rw [BitVec.toInt_eq_toNat_cond, BitVec.toNat_ofNat]; split <;> omega

/-- The start of a block below the length, with a length that can be rounded up to a multiple of 1024 in 32 bits: the clamped
    block index is the block's own. -/
theorem clamp_eq (n : ℕ) (hn : n < 16) (v : BitVec 32) (hv : v.toInt ≤ 2147482624) (h : 1024 * (n : ℤ) < v.toInt) :
    (Scalar.minsi (BitVec.ofNat 32 n)
      (Scalar.maxsi (Scalar.subi (Scalar.divsi (Scalar.addi v 1023#32) 1024#32) 1#32) 0#32)).toNat = n := by
  have hvn : 1024 * n < v.toNat ∧ v.toNat ≤ 2147482624 := by
    rw [BitVec.toInt_eq_toNat_cond] at hv h
    split at hv <;> omega
  have hN : (BitVec.ofNat 32 n).toNat = n := by rw [BitVec.toNat_ofNat]; omega
  have ha : (Scalar.addi v 1023#32).toNat = v.toNat + 1023 := by
    show (v + 1023#32).toNat = _
    rw [BitVec.toNat_add]; show (v.toNat + 1023) % 4294967296 = _; omega
  have hd : (Scalar.divsi (Scalar.addi v 1023#32) 1024#32).toNat = (v.toNat + 1023) / 1024 := by
    have hm : (Scalar.addi v 1023#32).msb = false := by
      rw [BitVec.msb_eq_false_iff_two_mul_lt, ha]; omega
    unfold Scalar.divsi IntOp.divsi
    rw [if_neg (by simp [IntOp.SDivCorner]), BitVec.sdiv_eq, hm, (by decide : (1024#32).msb = false)]
    show (BitVec.udiv _ _).toNat = _
    rw [BitVec.udiv_eq, BitVec.toNat_udiv, ha]
    rfl
  have hs : (Scalar.subi (Scalar.divsi (Scalar.addi v 1023#32) 1024#32) 1#32).toNat = (v.toNat + 1023) / 1024 - 1 := by
    show (Scalar.divsi (Scalar.addi v 1023#32) 1024#32 - 1#32).toNat = _
    rw [BitVec.toNat_sub, hd]
    show (4294967296 - 1 + (v.toNat + 1023) / 1024) % 4294967296 = _
    omega
  generalize Scalar.subi (Scalar.divsi (Scalar.addi v 1023#32) 1024#32) 1#32 = w at hs
  have hwi : w.toInt = (((v.toNat + 1023) / 1024 - 1 : ℕ) : ℤ) := by
    rw [BitVec.toInt_eq_toNat_cond, hs]; split <;> omega
  have h0 : (0#32).toInt = 0 := by decide
  have hz : (0#32).toNat = 0 := by decide
  have hi := toInt_small n (by omega)
  unfold Scalar.minsi Scalar.maxsi IntOp.minsi IntOp.maxsi
  split <;> split <;> rename_i h1 h2 <;> simp only [BitVec.slt_iff_toInt_lt] at h1 h2
  all_goals first | exact hN | omega

/-- The start of a block, as the kernel computes it. -/
theorem start_eq (i : grid0.Coords) : Scalar.muli (BitVec.ofNat 32 (i 1).val) 1024#32 = BitVec.ofNat 32 (1024 * (i 1).val) := by
  have h1 : (i 1).val < 16 := (i 1).isLt
  apply BitVec.eq_of_toNat_eq
  show (BitVec.ofNat 32 (i 1).val * 1024#32).toNat = _
  rw [BitVec.toNat_mul, BitVec.toNat_ofNat, BitVec.toNat_ofNat]
  show (i 1).val % 4294967296 * 1024 % 4294967296 = (1024 * (i 1).val) % 4294967296
  omega

/-- The block is computed exactly when it starts below the length. -/
theorem cond2_iff (i : grid0.Coords) (w : BitVec 32) : k0_cond2 i w = 1#1 ↔ 1024 * ((i 1).val : ℤ) < w.toInt := by
  have h1 : (i 1).val < 16 := (i 1).isLt
  show IntOp.cmpi .ne (Scalar.extui (IntOp.cmpi .slt (Scalar.muli (BitVec.ofNat 32 (i 1).val) 1024#32) w)) 0#32 = 1#1 ↔ _
  rw [start_eq]
  show IntOp.cmpi .ne (Scalar.extui (BitVec.ofBool (decide ((BitVec.ofNat 32 (1024 * (i 1).val)).toInt < w.toInt)))) 0#32 = 1#1 ↔ _
  rw [toInt_small _ (by omega)]
  push_cast
  by_cases h : 1024 * ((i 1).val : ℤ) < w.toInt
  · rw [decide_eq_true h]; exact ⟨fun _ => h, fun _ => by decide⟩
  · rw [decide_eq_false h]; exact ⟨fun hh => absurd hh (by decide), fun hh => absurd hh h⟩

end Cert.KernelIdeal.Shift
-- ==== Proof.KernelIdeal.Array.lean ====
/- The kernel's two result arrays, element by element: each is what the reference computes from the same arguments. -/
module

public import proofs.«01_k».proof.Proof.KernelIdeal.Block
public import proofs.«01_k».proof.Proof.KernelIdeal.Host
public import proofs.«01_k».proof.Proof.KernelIdeal.Index
public import proofs.«01_k».proof.Proof.KernelIdeal.Run
public import proofs.«01_k».proof.Proof.ReferenceIdeal.Rows

@[expose] public section

set_option maxRecDepth 16384

noncomputable section

namespace Cert.KernelIdeal.Shift

open Cert.KernelIdeal Cert.KernelIdeal.Gen Cert.Shift
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (hO : Ok m) (c : Dev nD)

/-! ## The results, in the reference's terms -/

/-- The arguments: codes, scales, lengths, shifts and keeps. -/
abbrev argCodes : IVec S12x16384x6x160 8 := m ((c : Thread nD τ).loc main_arg0)
abbrev argScales : FVec Ideal S12x16384x6 .f32 := m ((c : Thread nD τ).loc main_arg1)
abbrev argLengths : IVec S12 32 := m ((c : Thread nD τ).loc main_arg2)
abbrev argShifts : IVec S12 32 := m ((c : Thread nD τ).loc main_arg3)
abbrev argKeeps : IVec S12 32 := m ((c : Thread nD τ).loc main_arg4)

section New
variable (b : Fin 12) (T : Fin 16384) (h : Fin 6)

/-- The new code of a channel of a head at a token, -/
def newCode (d : Fin 160) : BitVec 8 :=
  refCode (ReferenceIdeal.Shift.rowValid (argLengths m c) b T) (ReferenceIdeal.Shift.rowLo (argCodes m c) b T h)
    (ReferenceIdeal.Shift.rowHi (argCodes m c) b T h) (argScales m c (ix3 b T h))
    (ReferenceIdeal.Shift.rowCos (argKeeps m c) (cosines (argShifts m c)) b T)
    (ReferenceIdeal.Shift.rowSin (argKeeps m c) (sines (argShifts m c)) b T) d
/-- and the new scale of the head at the token. -/
def newScale : EReal :=
  refScale (ReferenceIdeal.Shift.rowValid (argLengths m c) b T) (ReferenceIdeal.Shift.rowLo (argCodes m c) b T h)
    (ReferenceIdeal.Shift.rowHi (argCodes m c) b T h) (argScales m c (ix3 b T h))
    (ReferenceIdeal.Shift.rowCos (argKeeps m c) (cosines (argShifts m c)) b T)
    (ReferenceIdeal.Shift.rowSin (argKeeps m c) (sines (argShifts m c)) b T)

/-- The cosine and sine a token uses are reals that are not both zero. -/
theorem row_trig (x : Fin 80) : ∃ p q : ℝ,
    ReferenceIdeal.Shift.rowCos (argKeeps m c) (cosines (argShifts m c)) b T x = (p : EReal)
      ∧ ReferenceIdeal.Shift.rowSin (argKeeps m c) (sines (argShifts m c)) b T x = (q : EReal) ∧ (p ≠ 0 ∨ q ≠ 0) := by
  unfold ReferenceIdeal.Shift.rowCos ReferenceIdeal.Shift.rowSin Scalar.select
  split
  · exact trig (argShifts m c) b x
  · exact ⟨1, 0, EReal.coe_one.symm, EReal.coe_zero.symm, .inl one_ne_zero⟩

end New

/-! ## The tables' words and the input blocks -/

theorem len_eq (i : grid0.Coords) : lenWord c i (tbl m 0) = argLengths m c (ix1 (i 0)) := by
  obtain rfl : c = 0 := Subsingleton.elim _ _
  refine Eq.trans ?_ (congrFun (V_main_arg2 m 0) (ix1 (i 0)))
  refine congrArg (V m 0 main_arg2) (funext fun a => Fin.ext ?_)
  match a with
  | 0 => exact (congrArg (· + 1 * 0) (batch_toNat i)).trans (Nat.add_zero _)
theorem keep_eq (i : grid0.Coords) : keepWord c i (tbl m 1) = argKeeps m c (ix1 (i 0)) := by
  obtain rfl : c = 0 := Subsingleton.elim _ _
  refine Eq.trans ?_ (congrFun (V_main_arg4 m 0) (ix1 (i 0)))
  refine congrArg (V m 0 main_arg4) (funext fun a => Fin.ext ?_)
  match a with
  | 0 => exact (congrArg (· + 1 * 0) (batch_toNat i)).trans (Nat.add_zero _)

/-- The token that lane `l` of the block at point `i` holds. -/
def token (i : grid0.Coords) (l : Fin 1024) : Fin 16384 :=
  ⟨1024 * (i 1).val + l.val, by have : (i 1).val < 16 := (i 1).isLt; omega⟩

variable (t : Fin (cfgM m hO).N)

/-- At a block that starts below the length, the codes' input block is the block's own, -/
theorem index_0 (i : grid0.Coords) (hle : (argLengths m c (ix1 (i 0))).toInt ≤ 2147482624)
    (hlt : 1024 * ((i 1).val : ℤ) < (argLengths m c (ix1 (i 0))).toInt) :
    cc0_transform_0 k0_off1_inb numel1_S1 (tbl m) i 3 = (i 1).val := by
  have h1 : (i 1).val < 16 := (i 1).isLt
  have e := len_eq m c i
  simp only [cc0_transform_0, Matrix.cons_val]
  have key := fun (w : BitVec 32) (hw : w = lenWord c i (tbl m 0)) =>
    clamp_eq (i 1).val h1 w (by rw [hw, e]; exact hle) (by rw [hw, e]; exact hlt)
  exact key _ rfl
/-- and the scales' too. -/
theorem index_1 (i : grid0.Coords) (hle : (argLengths m c (ix1 (i 0))).toInt ≤ 2147482624)
    (hlt : 1024 * ((i 1).val : ℤ) < (argLengths m c (ix1 (i 0))).toInt) :
    cc0_transform_1 k0_off1_inb numel1_S1 (tbl m) i 2 = (i 1).val := by
  have h1 : (i 1).val < 16 := (i 1).isLt
  have e := len_eq m c i
  simp only [cc0_transform_1, Matrix.cons_val]
  have key := fun (w : BitVec 32) (hw : w = lenWord c i (tbl m 0)) =>
    clamp_eq (i 1).val h1 w (by rw [hw, e]; exact hle) (by rw [hw, e]; exact hlt)
  exact key _ rfl

/-- Where the first axis of a block lies. -/
theorem batch_at (i : grid0.Coords) : (BitVec.ofNat 32 (i 0).val).toNat * 1 + 1 * 0 = (i 0).val := by
  rw [batch_toNat]; omega

/-- The index maps of the two input blocks that read the length table. -/
theorem index_map_0 : ((cfgM m hO).win 0).index t = cc0_transform_0 k0_off1_inb numel1_S1 (tbl m) (grid0.coords t) := rfl
theorem index_map_1 : ((cfgM m hO).win 1).index t = cc0_transform_1 k0_off1_inb numel1_S1 (tbl m) (grid0.coords t) := rfl

/-- The block of codes, read off the argument. -/
theorem block_0 (hidx : cc0_transform_0 k0_off1_inb numel1_S1 (tbl m) (grid0.coords t) 3 = (grid0.coords t 1).val)
    (h : Fin 6) (d : Fin 160) (l : Fin 1024) :
    iblk m hO c 0 t (ix4 0 h d l) = argCodes m c (ix4 (grid0.coords t 0) (token (grid0.coords t) l) h d) := by
  refine Eq.trans ?_ (codes_apply m c (grid0.coords t 0) h d (token (grid0.coords t) l))
  refine congrArg (V m c main_v22) (funext fun (a : Fin 4) => Fin.ext ?_)
  match a with
  | 0 => exact batch_at (grid0.coords t)
  | 1 => show 0 * 6 + 1 * h.val = h.val; omega
  | 2 => show 0 * 160 + 1 * d.val = d.val; omega
  | 3 =>
    refine (Pipeline.Window.rect_emb_val ((cfgM m hO).win 0) t (ix4 0 h d l) (3 : Fin 4)).trans ?_
    have e : ((cfgM m hO).win 0).index t (3 : Fin 4) = (grid0.coords t 1).val := (congrFun (index_map_0 m hO t) (3 : Fin 4)).trans hidx
    rw [e]
    show (grid0.coords t 1).val * 1024 + l.val = 1024 * (grid0.coords t 1).val + l.val
    omega
/-- The block of scales. -/
theorem block_1 (hidx : cc0_transform_1 k0_off1_inb numel1_S1 (tbl m) (grid0.coords t) 2 = (grid0.coords t 1).val)
    (h : Fin 6) (l : Fin 1024) :
    iblk m hO c 1 t (ix3 0 h l) = argScales m c (ix3 (grid0.coords t 0) (token (grid0.coords t) l) h) := by
  refine Eq.trans ?_ (scales_apply m c (grid0.coords t 0) h (token (grid0.coords t) l))
  refine congrArg (V m c main_v23) (funext fun (a : Fin 3) => Fin.ext ?_)
  match a with
  | 0 => exact batch_at (grid0.coords t)
  | 1 => show 0 * 6 + 1 * h.val = h.val; omega
  | 2 =>
    refine (Pipeline.Window.rect_emb_val ((cfgM m hO).win 1) t (ix3 0 h l) (2 : Fin 3)).trans ?_
    have e : ((cfgM m hO).win 1).index t (2 : Fin 3) = (grid0.coords t 1).val := (congrFun (index_map_1 m hO t) (2 : Fin 3)).trans hidx
    rw [e]
    show (grid0.coords t 1).val * 1024 + l.val = 1024 * (grid0.coords t 1).val + l.val
    omega
/-- The block of cosines, -/
theorem block_2 (x : Fin 80) (l : Fin 128) : iblk m hO c 2 t (ix3 0 x l) = cosines (argShifts m c) (ix2 (grid0.coords t 0) x) := by
  refine Eq.trans ?_ (cos_apply m c (grid0.coords t 0) x l)
  refine congrArg (V m c main_v18) (funext fun (a : Fin 3) => Fin.ext ?_)
  match a with
  | 0 => exact batch_at (grid0.coords t)
  | 1 => show 0 * 80 + 1 * x.val = x.val; omega
  | 2 => show 0 * 128 + 1 * l.val = l.val; omega
/-- and of sines. -/
theorem block_3 (x : Fin 80) (l : Fin 128) : iblk m hO c 3 t (ix3 0 x l) = sines (argShifts m c) (ix2 (grid0.coords t 0) x) := by
  refine Eq.trans ?_ (sin_apply m c (grid0.coords t 0) x l)
  refine congrArg (V m c main_v21) (funext fun (a : Fin 3) => Fin.ext ?_)
  match a with
  | 0 => exact batch_at (grid0.coords t)
  | 1 => show 0 * 80 + 1 * x.val = x.val; omega
  | 2 => show 0 * 128 + 1 * l.val = l.val; omega

/-! ## What the body leaves at a point -/

/-- A token of a block that starts at or past the length is not valid. -/
theorem skip_invalid (i : grid0.Coords) (l : Fin 1024) (h : ¬ 1024 * ((i 1).val : ℤ) < (argLengths m c (ix1 (i 0))).toInt) :
    ReferenceIdeal.Shift.rowValid (argLengths m c) (i 0) (token i l) ≠ 1#1 := by
  have hT := (token i l).isLt
  show BitVec.ofBool (decide ((BitVec.ofNat 32 (token i l).val).toInt < (argLengths m c (ix1 (i 0))).toInt)) ≠ 1#1
  rw [toInt_small _ (by omega), decide_eq_false (by
    have : (token i l).val = 1024 * (i 1).val + l.val := rfl
    omega)]
  decide

/-- The rows of the block computed at a point are the rows of the arguments. -/
theorem rows_eq (hle : (argLengths m c (ix1 (grid0.coords t 0))).toInt ≤ 2147482624)
    (hlt : 1024 * ((grid0.coords t 1).val : ℤ) < (argLengths m c (ix1 (grid0.coords t 0))).toInt) (h : Fin 6) (l : Fin 1024) :
    rowLo (iblk m hO c 0 t) h l = ReferenceIdeal.Shift.rowLo (argCodes m c) (grid0.coords t 0) (token (grid0.coords t) l) h
    ∧ rowHi (iblk m hO c 0 t) h l = ReferenceIdeal.Shift.rowHi (argCodes m c) (grid0.coords t 0) (token (grid0.coords t) l) h
    ∧ iblk m hO c 1 t (ix3 0 h l) = argScales m c (ix3 (grid0.coords t 0) (token (grid0.coords t) l) h)
    ∧ rowCos (grid0.coords t 1) (keepWord c (grid0.coords t) (tbl m 1)) (iblk m hO c 2 t) l
      = ReferenceIdeal.Shift.rowCos (argKeeps m c) (cosines (argShifts m c)) (grid0.coords t 0) (token (grid0.coords t) l)
    ∧ rowSin (grid0.coords t 1) (keepWord c (grid0.coords t) (tbl m 1)) (iblk m hO c 3 t) l
      = ReferenceIdeal.Shift.rowSin (argKeeps m c) (sines (argShifts m c)) (grid0.coords t 0) (token (grid0.coords t) l)
    ∧ rowValid (grid0.coords t 1) (lenWord c (grid0.coords t) (tbl m 0)) l
      = ReferenceIdeal.Shift.rowValid (argLengths m c) (grid0.coords t 0) (token (grid0.coords t) l) := by
  have h0 := block_0 m hO c t (index_0 m c _ hle hlt)
  have h1 := block_1 m hO c t (index_1 m c _ hle hlt)
  refine ⟨funext fun x => h0 h _ l, funext fun x => h0 h _ l, h1 h l, funext fun x => ?_, funext fun x => ?_, ?_⟩
  · unfold rowCos ReferenceIdeal.Shift.rowCos
    rw [keep_eq, block_2]; rfl
  · unfold rowSin ReferenceIdeal.Shift.rowSin
    rw [keep_eq, block_3]; rfl
  · unfold rowValid ReferenceIdeal.Shift.rowValid
    rw [len_eq]; rfl

/-- At a point whose block starts below the length the body leaves the block's new codes and scales, -/
theorem outs_compute (hc : k0_cond2 (grid0.coords t) (lenWord c (grid0.coords t) (tbl m 0)) = 1#1) :
    outsAt0 m hO c t
      = (blockCode (grid0.coords t 1) (lenWord c (grid0.coords t) (tbl m 0)) (keepWord c (grid0.coords t) (tbl m 1))
          (iblk m hO c 0 t) (iblk m hO c 1 t) (iblk m hO c 2 t) (iblk m hO c 3 t),
        blockScale (grid0.coords t 1) (lenWord c (grid0.coords t) (tbl m 0)) (keepWord c (grid0.coords t) (tbl m 1))
          (iblk m hO c 0 t) (iblk m hO c 1 t) (iblk m hO c 2 t) (iblk m hO c 3 t)) :=
  (outsAt0_compute m hO c t hc).trans (Prod.ext
    (outCompute_4_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ hc) hc)
    (outCompute_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (not_cond1 _ _ hc) hc))
/-- and elsewhere zeros and ones. -/
theorem outs_skip (hc : ¬ k0_cond2 (grid0.coords t) (lenWord c (grid0.coords t) (tbl m 0)) = 1#1) :
    outsAt0 m hO c t = (fun _ => 0#8, fun _ => (1 : EReal)) :=
  (outsAt0_skip m hO c t hc).trans (Prod.ext
    (outSkip_4_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ hc) hc)
    (outSkip_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) (cond1_of _ _ hc) hc))

/-- What the body leaves in the codes' buffer and in the scales' at a point. -/
theorem outs_apply (hle : (argLengths m c (ix1 (grid0.coords t 0))).toInt ≤ 2147482624) (h : Fin 6) (l : Fin 1024) :
    (∀ d, (outsAt0 m hO c t).1 (ix4 0 h d l) = newCode m c (grid0.coords t 0) (token (grid0.coords t) l) h d)
    ∧ (outsAt0 m hO c t).2 (ix3 0 h l) = newScale m c (grid0.coords t 0) (token (grid0.coords t) l) h := by
  by_cases hc : k0_cond2 (grid0.coords t) (lenWord c (grid0.coords t) (tbl m 0)) = 1#1
  · have hlt := (cond2_iff _ _).1 hc
    rw [len_eq] at hlt
    obtain ⟨e0, e0', e1, e2, e3, ev⟩ := rows_eq m hO c t hle hlt h l
    have hr := row (ReferenceIdeal.Shift.rowValid (argLengths m c) (grid0.coords t 0) (token (grid0.coords t) l))
      (ReferenceIdeal.Shift.rowLo (argCodes m c) (grid0.coords t 0) (token (grid0.coords t) l) h)
      (ReferenceIdeal.Shift.rowHi (argCodes m c) (grid0.coords t 0) (token (grid0.coords t) l) h)
      (argScales m c (ix3 (grid0.coords t 0) (token (grid0.coords t) l) h)) _ _
      (row_trig m c (grid0.coords t 0) (token (grid0.coords t) l))
    rw [outs_compute m hO c t hc]
    constructor
    · intro d
      show codeAt (grid0.coords t 1) _ _ _ _ _ _ h l d = _
      unfold codeAt newCode
      rw [e0, e0', e1, e2, e3, ev]
      exact hr.2 d
    · show scaleAt (grid0.coords t 1) _ _ _ _ _ _ h l = _
      unfold scaleAt newScale
      rw [e0, e0', e1, e2, e3, ev]
      exact hr.1
  · have hv := skip_invalid m c (grid0.coords t) l (fun hlt => hc ((cond2_iff _ _).2 (by rw [len_eq]; exact hlt)))
    rw [outs_skip m hO c t hc]
    exact ⟨fun d => (refCode_invalid hv d).symm, (refScale_invalid hv).symm⟩

end Cert.KernelIdeal.Shift
-- ==== Proof.KernelIdeal.Final.lean ====
/- The kernel's run: the two arrays after the pipeline, and the results after the transposes that follow it. -/
module

public import proofs.«01_k».proof.Proof.KernelIdeal.Array

@[expose] public section

set_option maxRecDepth 16384

noncomputable section

namespace Cert.KernelIdeal.Shift

open Cert.KernelIdeal Cert.KernelIdeal.Gen Cert.Shift
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (hO : Ok m) (c : Dev nD)

/-! ## The grid -/

/-- The point of a batch and a block. -/
def point (b : Fin 12) (k : Fin 16) : Fin grid0.N := ⟨16 * b.val + k.val, by
  have : grid0.N = 192 := by decide
  omega⟩

theorem coords_point_val : ∀ (b : Fin 12) (k : Fin 16),
    (grid0.coords (point b k) 0).val = b.val ∧ (grid0.coords (point b k) 1).val = k.val := by
  decide +kernel
theorem coords_point (b : Fin 12) (k : Fin 16) : grid0.coords (point b k) 0 = b ∧ grid0.coords (point b k) 1 = k :=
  ⟨Fin.ext (coords_point_val b k).1, Fin.ext (coords_point_val b k).2⟩

/-- The point that holds a token of a batch, and its lane there. -/
def pointOf (b : Fin 12) (T : Fin 16384) : Fin grid0.N := point b ⟨T.val / 1024, by omega⟩
def laneOf (T : Fin 16384) : Fin 1024 := ⟨T.val % 1024, by omega⟩

theorem token_pointOf (b : Fin 12) (T : Fin 16384) : token (grid0.coords (pointOf b T)) (laneOf T) = T := by
  apply Fin.ext
  show 1024 * (grid0.coords (pointOf b T) 1).val + T.val % 1024 = T.val
  unfold pointOf
  rw [(coords_point _ _).2]
  show 1024 * (T.val / 1024) + T.val % 1024 = T.val
  omega

/-! ## The arrays -/

/-- Where the block of codes at a point lies in its array, -/
theorem emb_4 (t : Fin (cfgM m hO).N) (h : Fin 6) (d : Fin 160) (l : Fin 1024) :
    (((cfgM m hO).win 4).blk t).view.emb (ix4 0 h d l)
      = (ix4 (grid0.coords t 0) h d (token (grid0.coords t) l) : S12x6x160x16384.Idx) := by
  have h1 : (grid0.coords t 1).val < 16 := (grid0.coords t 1).isLt
  refine funext fun (a : Fin 4) => Fin.ext ?_
  match a with
  | 0 => exact batch_at (grid0.coords t)
  | 1 => show 0 * 6 + 1 * h.val = h.val; omega
  | 2 => show 0 * 160 + 1 * d.val = d.val; omega
  | 3 =>
    show (BitVec.ofNat 32 (grid0.coords t 1).val).toNat * 1024 + 1 * l.val = 1024 * (grid0.coords t 1).val + l.val
    rw [BitVec.toNat_ofNat]; omega
/-- and the block of scales in its. -/
theorem emb_5 (t : Fin (cfgM m hO).N) (h : Fin 6) (l : Fin 1024) :
    (((cfgM m hO).win 5).blk t).view.emb (ix3 0 h l)
      = (ix3 (grid0.coords t 0) h (token (grid0.coords t) l) : S12x6x16384.Idx) := by
  have h1 : (grid0.coords t 1).val < 16 := (grid0.coords t 1).isLt
  refine funext fun (a : Fin 3) => Fin.ext ?_
  match a with
  | 0 => exact batch_at (grid0.coords t)
  | 1 => show 0 * 6 + 1 * h.val = h.val; omega
  | 2 =>
    show (BitVec.ofNat 32 (grid0.coords t 1).val).toNat * 1024 + 1 * l.val = 1024 * (grid0.coords t 1).val + l.val
    rw [BitVec.toNat_ofNat]; omega

/-- The whole array of new codes, tokens last, -/
def codesArr : IVec S12x6x160x16384 8 := fun y => newCode m c (y 0) (y 3) (y 1) (y 2)
/-- and of new scales. -/
def scalesArr : FVec Ideal S12x6x16384 .f32 := fun y => newScale m c (y 0) (y 2) (y 1)

theorem ix4_eta (y : S1x6x160x1024.Idx) : y = ix4 0 (y 1) (y 2) (y 3) := by
  funext a; match a with
  | 0 => exact Subsingleton.elim (α := Fin 1) _ _
  | 1 => rfl
  | 2 => rfl
  | 3 => rfl
theorem ix3_eta (y : S1x6x1024.Idx) : y = ix3 0 (y 1) (y 2) := by
  funext a; match a with
  | 0 => exact Subsingleton.elim (α := Fin 1) _ _
  | 1 => rfl
  | 2 => rfl

/-- Every index of the codes' array lies in some point's block. -/
theorem cover_4 (b : Fin 12) (h : Fin 6) (d : Fin 160) (T : Fin 16384) :
    (((cfgM m hO).win 4).blk (pointOf b T)).view.emb (ix4 0 h d (laneOf T)) = (ix4 b h d T : S12x6x160x16384.Idx) := by
  have e0 : grid0.coords (pointOf b T) 0 = b := (coords_point _ _).1
  have e1 := token_pointOf b T
  refine (emb_4 m hO (pointOf b T) h d (laneOf T)).trans ?_
  exact congr (congrArg (fun (x : Fin 12) (y : Fin 16384) => (ix4 x h d y : S12x6x160x16384.Idx)) e0) e1
/-- The same for the scales. -/
theorem cover_5 (b : Fin 12) (h : Fin 6) (T : Fin 16384) :
    (((cfgM m hO).win 5).blk (pointOf b T)).view.emb (ix3 0 h (laneOf T)) = (ix3 b h T : S12x6x16384.Idx) := by
  have e0 : grid0.coords (pointOf b T) 0 = b := (coords_point _ _).1
  have e1 := token_pointOf b T
  refine (emb_5 m hO (pointOf b T) h (laneOf T)).trans ?_
  exact congr (congrArg (fun (x : Fin 12) (y : Fin 16384) => (ix3 x h y : S12x6x16384.Idx)) e0) e1

/-- An index of the codes' array by its coordinates, -/
theorem idx_4 (j : S12x6x160x16384.Idx) : ∃ (b : Fin 12) (h : Fin 6) (d : Fin 160) (T : Fin 16384), j = ix4 b h d T :=
  ⟨j 0, j 1, j 2, j 3, funext fun (a : Fin 4) => by match a with | 0 => rfl | 1 => rfl | 2 => rfl | 3 => rfl⟩
/-- and of the scales'. -/
theorem idx_5 (j : S12x6x16384.Idx) : ∃ (b : Fin 12) (h : Fin 6) (T : Fin 16384), j = ix3 b h T :=
  ⟨j 0, j 1, j 2, funext fun (a : Fin 3) => by match a with | 0 => rfl | 1 => rfl | 2 => rfl⟩
/-- The same for a block of codes, -/
theorem idx_blk_4 (y : S1x6x160x1024.Idx) : ∃ (h : Fin 6) (d : Fin 160) (l : Fin 1024), y = ix4 0 h d l := ⟨_, _, _, ix4_eta y⟩
/-- and of scales. -/
theorem idx_blk_5 (y : S1x6x1024.Idx) : ∃ (h : Fin 6) (l : Fin 1024), y = ix3 0 h l := ⟨_, _, ix3_eta y⟩

/-- An array of codes that holds at every point what the point leaves is the array after the pipeline, -/
theorem arr_4_of (D : Dat τ (Elt Ideal) Unit ℕ (UR sig nD τ) ℕ (cfgM m hO) c)
    (O : Fin (cfgM m hO).N → S1x6x160x1024.Idx → BitVec 8) (hD : ∀ t, D.after 4 t = O t)
    (G : S12x6x160x16384.Idx → BitVec 8)
    (hG : ∀ (t : Fin (cfgM m hO).N) (h : Fin 6) (d : Fin 160) (l : Fin 1024),
      O t (ix4 0 h d l) = G (ix4 (grid0.coords t 0) h d (token (grid0.coords t) l))) :
    D.arrAt 4 (cfgM m hO).N = G := by
  refine D.arrAt_eq_of_emb 4 G (fun t _ y => ?_) fun j => ?_
  · obtain ⟨h, d, l, rfl⟩ := idx_blk_4 y
    exact (congrFun (hD t) (ix4 0 h d l)).trans ((hG t h d l).trans (congrArg G (emb_4 m hO t h d l)).symm)
  · obtain ⟨b, h, d, T, rfl⟩ := idx_4 j
    exact ⟨pointOf b T, flush0_4 (adm m hO) _, Eq.subst (motive := (· ∈ _)) (cover_4 m hO b h d T) (View.emb_mem_set _ _)⟩
/-- and an array of scales. -/
theorem arr_5_of (D : Dat τ (Elt Ideal) Unit ℕ (UR sig nD τ) ℕ (cfgM m hO) c)
    (O : Fin (cfgM m hO).N → S1x6x1024.Idx → EReal) (hD : ∀ t, D.after 5 t = O t)
    (G : S12x6x16384.Idx → EReal)
    (hG : ∀ (t : Fin (cfgM m hO).N) (h : Fin 6) (l : Fin 1024),
      O t (ix3 0 h l) = G (ix3 (grid0.coords t 0) h (token (grid0.coords t) l))) :
    D.arrAt 5 (cfgM m hO).N = G := by
  refine D.arrAt_eq_of_emb 5 G (fun t _ y => ?_) fun j => ?_
  · obtain ⟨h, l, rfl⟩ := idx_blk_5 y
    exact (congrFun (hD t) (ix3 0 h l)).trans ((hG t h l).trans (congrArg G (emb_5 m hO t h l)).symm)
  · obtain ⟨b, h, T, rfl⟩ := idx_5 j
    exact ⟨pointOf b T, flush0_5 (adm m hO) _, Eq.subst (motive := (· ∈ _)) (cover_5 m hO b h T) (View.emb_mem_set _ _)⟩

variable (hle : ∀ b : Fin 12, (argLengths m c (ix1 b)).toInt ≤ 2147482624)
include hle

/-- The array of codes after the pipeline, -/
theorem arr_4 : (dats m hO 0 c).arrAt 4 (cfgM m hO).N = codesArr m c :=
  arr_4_of m hO c (dats m hO 0 c) (fun t => (outsAt0 m hO c t).1) (after0_4 m hO c) (codesArr m c)
    fun t h d l => (outs_apply m hO c t (hle _) h l).1 d
/-- and of scales. -/
theorem arr_5 : (dats m hO 0 c).arrAt 5 (cfgM m hO).N = scalesArr m c :=
  arr_5_of m hO c (dats m hO 0 c) (fun t => (outsAt0 m hO c t).2) (after0_5 m hO c) (scalesArr m c)
    fun t h l => (outs_apply m hO c t (hle _) h l).2

/-! ## The results -/

/-- The codes the program returns, -/
theorem result_25 : Pipeline.afterTail pcfgs (fun _ => adm m hO) (dats m hO) 0 (V0 m) [hostOps1] c main_v25
    = transpose S12x16384x6x160 [0, 3, 1, 2] (codesArr m c) transposes_S12x6x160x16384_S12x16384x6x160_0_3_1_2 := by
  have e : Pipeline.withArrays spec0 c (V0 m c) (fun w => (dats m hO 0 c).arrAt w (cfgM m hO).N) (Proc.devRef .tc main_v24_0) = codesArr m c :=
    (Pipeline.withArrays_arr spec0 (by decide) c _ _ 4).trans (arr_4 m hO c hle)
  unfold Pipeline.afterTail
  show StableHlo.after hostOps1 _ (Proc.devRef .tc main_v25) = _
  after_results_simp
  exact congrArg (transpose S12x16384x6x160 [0, 3, 1, 2] · transposes_S12x6x160x16384_S12x16384x6x160_0_3_1_2) e
/-- and the scales. -/
theorem result_26 : Pipeline.afterTail pcfgs (fun _ => adm m hO) (dats m hO) 0 (V0 m) [hostOps1] c main_v26
    = transpose S12x16384x6 [0, 2, 1] (scalesArr m c) transposes_S12x6x16384_S12x16384x6_0_2_1 := by
  have e : Pipeline.withArrays spec0 c (V0 m c) (fun w => (dats m hO 0 c).arrAt w (cfgM m hO).N) (Proc.devRef .tc main_v24_1) = scalesArr m c :=
    (Pipeline.withArrays_arr spec0 (by decide) c _ _ 5).trans (arr_5 m hO c hle)
  unfold Pipeline.afterTail
  show StableHlo.after hostOps1 _ (Proc.devRef .tc main_v26) = _
  after_results_simp
  exact congrArg (transpose S12x16384x6 [0, 2, 1] · transposes_S12x6x16384_S12x16384x6_0_2_1) e

end Cert.KernelIdeal.Shift
-- ==== Proof.KernelIdeal.Result.lean ====
/- The kernel's run to the end: its two results, and its arguments unchanged. -/
module

public import proofs.«01_k».proof.Proof.KernelIdeal.Final
public import proofs.«01_k».proof.Proof.KernelIdeal.Tables

@[expose] public section

set_option maxRecDepth 16384

noncomputable section

namespace Cert.KernelIdeal.Shift

open Cert.KernelIdeal Cert.KernelIdeal.Gen Cert.Shift
open Idealize.ShloMosaic Idealize.ShloMosaic.TcCoe Idealize.ShloMosaic.Tactic Idealize.SL.Sem

variable (m : (ℓ : Loc nD τ sig) → Buf (Elt Ideal) ℓ) (ρ : Dev nD → PrngReg)

/-- The codes the program returns, tokens second, -/
def resultCodes (c : Dev nD) : IVec S12x16384x6x160 8 :=
  transpose S12x16384x6x160 [0, 3, 1, 2] (codesArr m c) transposes_S12x6x160x16384_S12x16384x6x160_0_3_1_2
/-- and the scales. -/
def resultScales (c : Dev nD) : FVec Ideal S12x16384x6 .f32 :=
  transpose S12x16384x6 [0, 2, 1] (scalesArr m c) transposes_S12x6x16384_S12x16384x6_0_2_1

theorem resultCodes_apply (c : Dev nD) (b : Fin 12) (T : Fin 16384) (h : Fin 6) (d : Fin 160) :
    resultCodes m c (ix4 b T h d) = newCode m c b T h d := by
  have e : codesArr m c (ix4 b h d T) = newCode m c b T h d := rfl
  unfold resultCodes
  generalize codesArr m c = G at e ⊢
  rw [← e]; pointwise
theorem resultScales_apply (c : Dev nD) (b : Fin 12) (T : Fin 16384) (h : Fin 6) :
    resultScales m c (ix3 b T h) = newScale m c b T h := by
  have e : scalesArr m c (ix3 b h T) = newScale m c b T h := rfl
  unfold resultScales
  generalize scalesArr m c = G at e ⊢
  rw [← e]; pointwise

/-- From lengths that can be rounded up to a multiple of 1024 in 32 bits, every execution ends with those results. -/
theorem results (hO : Ok m) (hle : ∀ c (b : Fin 12), (argLengths m c (ix1 b)).toInt ≤ 2147482624) :
    θ_run defs (onTc (τ := τ) (main (F := Ideal))) ⟨m, fun _ => 0, ρ⟩ (fun r => ∀ c : Dev nD,
      r.2.mem ((c.tc : Thread nD τ).loc main_v25) = resultCodes m c
      ∧ r.2.mem ((c.tc : Thread nD τ).loc main_v26) = resultScales m c) :=
  (θ_run defs _ _).mono (fun _ h c =>
    ⟨((h c).2 main_v25 (by decide : main_v25 ∈ Pipeline.restRefs sig spec0)).trans (result_25 m hO c (hle c)),
     ((h c).2 main_v26 (by decide : main_v26 ∈ Pipeline.restRefs sig spec0)).trans (result_26 m hO c (hle c))⟩)
    (run_main m ρ hO)

end Cert.KernelIdeal.Shift
-- ==== Proof.ReferenceIdeal.Result.lean ====
/- The reference's run to the end: its two results, element by element, in terms of the kernel's own arguments. -/
module

public import proofs.«01_k».proof.Proof.ReferenceIdeal.Array
public import proofs.«01_k».proof.Proof.KernelIdeal.Result

@[expose] public section

set_option maxRecDepth 16384

noncomputable section

namespace Cert.ReferenceIdeal.Shift

open Cert.ReferenceIdeal Cert.ReferenceIdeal.Gen Cert.Shift
open Idealize.ShloMosaic Idealize.ShloMosaic.TcCoe Idealize.ShloMosaic.Tactic Idealize.SL.Sem

variable (m : (ℓ : Loc nD τ sig) → Buf (Elt Ideal) ℓ) (ρ : Dev nD → PrngReg)

/-- The host computes the same table of cosines for the reference as for the kernel, -/
theorem cos_table (c : Dev nD) : V m c main_v16 = KernelIdeal.Shift.cosines (m ((c : Thread nD τ).loc main_arg3)) := by
  show StableHlo.after hostOps0 (fun b => m (c, b)) (Proc.devRef .tc main_v16) = _
  after_results_simp
  rfl
/-- and of sines. -/
theorem sin_table (c : Dev nD) : V m c main_v17 = KernelIdeal.Shift.sines (m ((c : Thread nD τ).loc main_arg3)) := by
  show StableHlo.after hostOps0 (fun b => m (c, b)) (Proc.devRef .tc main_v17) = _
  after_results_simp
  rfl

section Equal
variable (mk : (ℓ : Loc KernelIdeal.nD KernelIdeal.τ KernelIdeal.sig) → Buf (Elt Ideal) ℓ) (ck : Dev KernelIdeal.nD)
  (x0 : Vec Ideal S12x16384x6x160 .i8) (x1 : Vec Ideal S12x16384x6 .f32) (x2 x3 : Vec Ideal S12 .i32) (x4 x5 : Vec Ideal S12x80 .f32)
  (h0 : x0 = KernelIdeal.Shift.argCodes mk ck) (h1 : x1 = KernelIdeal.Shift.argScales mk ck) (h2 : x2 = KernelIdeal.Shift.argLengths mk ck)
  (h3 : x3 = KernelIdeal.Shift.argKeeps mk ck) (h4 : x4 = KernelIdeal.Shift.cosines (KernelIdeal.Shift.argShifts mk ck))
  (h5 : x5 = KernelIdeal.Shift.sines (KernelIdeal.Shift.argShifts mk ck))
include h0 h1 h2 h3 h4 h5

/-- From the kernel's arguments the reference's block of codes is the kernel's result, -/
theorem outCodes_eq : out0_6 x0 x1 x2 x3 x4 x5 = KernelIdeal.Shift.resultCodes mk ck := by
  refine funext fun (y : S12x16384x6x160.Idx) => ?_
  obtain ⟨b, T, h, d, rfl⟩ : ∃ (b : Fin 12) (T : Fin 16384) (h : Fin 6) (d : Fin 160), y = ix4 b T h d :=
    ⟨y 0, y 1, y 2, y 3, funext fun (a : Fin 4) => by match a with | 0 => rfl | 1 => rfl | 2 => rfl | 3 => rfl⟩
  rw [outCodes_apply, h0, h1, h2, h3, h4, h5]
  exact (KernelIdeal.Shift.resultCodes_apply mk ck b T h d).symm
/-- and so is its block of scales. -/
theorem outScales_eq : out0_7 x0 x1 x2 x3 x4 x5 = KernelIdeal.Shift.resultScales mk ck := by
  refine funext fun (y : S12x16384x6.Idx) => ?_
  obtain ⟨b, T, h, rfl⟩ : ∃ (b : Fin 12) (T : Fin 16384) (h : Fin 6), y = ix3 b T h :=
    ⟨y 0, y 1, y 2, funext fun (a : Fin 3) => by match a with | 0 => rfl | 1 => rfl | 2 => rfl⟩
  rw [outScales_apply, h0, h1, h2, h3, h4, h5]
  exact (KernelIdeal.Shift.resultScales_apply mk ck b T h).symm
end Equal

/-- Every execution of the reference ends with its two blocks in the result arrays, and its arguments unchanged. -/
theorem results : θ_run defs (onTc (τ := τ) (main (F := Ideal))) ⟨m, fun _ => 0, ρ⟩ (fun r => ∀ c : Dev nD,
      r.2.mem ((c.tc : Thread nD τ).loc main_v18_0)
        = out0_6 (V m c main_arg0) (V m c main_arg1) (V m c main_arg2) (V m c main_arg4) (V m c main_v16) (V m c main_v17)
      ∧ r.2.mem ((c.tc : Thread nD τ).loc main_v18_1)
        = out0_7 (V m c main_arg0) (V m c main_arg1) (V m c main_arg2) (V m c main_arg4) (V m c main_v16) (V m c main_v17)) :=
  (θ_run defs _ _).mono (fun _ h c => ⟨((h c).1 6).trans (arrCodes m c), ((h c).1 7).trans (arrScales m c)⟩) (run_main m ρ)

end Cert.ReferenceIdeal.Shift
-- ==== Proof.Equal.lean ====
/- The two programs' results are equal: the algebraic claim. -/
module

public import proofs.«01_k».proof.Defs
public import proofs.«01_k».proof.Proof.ReferenceIdeal.Result

@[expose] public section

set_option maxRecDepth 16384

noncomputable section

namespace Cert.Shift

open Idealize.ShloMosaic Idealize.ShloMosaic.TcCoe Idealize.SL.Sem

/-- The side condition of the precondition's own text. -/
theorem preFacts : Cert.Pre_lengths_round_up.Facts := ⟨by decide⟩

/-- The precondition bounds every length. -/
theorem lengths_le [Cert.Pre_lengths_round_up.Facts]
    (m : (ℓ : Loc KernelIdeal.nD KernelIdeal.τ KernelIdeal.sig) → Buf (Elt Ideal) ℓ)
    (h : Cert.Pre_KernelIdeal_lengths_round_up m) (c : Dev KernelIdeal.nD) (b : Fin 12) :
    (KernelIdeal.Shift.argLengths m c (ix1 b)).toInt ≤ 2147482624 := by
  have e : BitVec.ofBool (BitVec.sle (KernelIdeal.Shift.argLengths m c (ix1 b)) 2147482624#32) = 1#1 := congrFun (h c) (ix1 b)
  generalize KernelIdeal.Shift.argLengths m c (ix1 b) = w at e ⊢
  have hk : (2147482624#32).toInt = 2147482624 := by decide
  by_contra hn
  have hs : BitVec.sle w 2147482624#32 = false := by
    unfold BitVec.sle
    rw [hk]; exact decide_eq_false hn
  rw [hs] at e
  exact absurd e (by decide)

/-- The kernel and the reference end with equal codes and equal scales, and with their arguments unchanged. -/
theorem algebraic : Cert.algebraic_KernelIdeal_ReferenceIdeal_pre_lengths_round_up (hKernelIdeal := Cert.KernelIdeal.Gen.facts)
    (hReferenceIdeal := Cert.ReferenceIdeal.Gen.facts) (hPre_lengths_round_up := preFacts) := by
  intro m g m' g' hpre hargs
  have hO := Cert.KernelIdeal.Shift.ok m
  have hle := @lengths_le preFacts m hpre
  refine ⟨fun c => KernelIdeal.Shift.resultCodes m c, fun c => KernelIdeal.Shift.resultScales m c, ?_, ?_⟩
  · exact (θ_run _ _ _).mono (fun _ h c => ⟨(h.1 c).1, (h.1 c).2, h.2 c⟩)
      (θ_run_and (KernelIdeal.Shift.results m g hO hle) (KernelIdeal.Shift.unchanged m g hO))
  · refine (θ_run _ _ _).mono (fun _ h c => ?_)
      (θ_run_and (ReferenceIdeal.Shift.results m' g') (ReferenceIdeal.Gen.frame m' g'))
    obtain ⟨a0, a1, a2, a3, a4⟩ := hargs c
    have e0 := (ReferenceIdeal.Gen.V_main_arg0 m' c).trans a0
    have e1 := (ReferenceIdeal.Gen.V_main_arg1 m' c).trans a1
    have e2 := (ReferenceIdeal.Gen.V_main_arg2 m' c).trans a2
    have e4 := (ReferenceIdeal.Gen.V_main_arg4 m' c).trans a4
    have ec := (ReferenceIdeal.Shift.cos_table m' c).trans (congrArg KernelIdeal.Shift.cosines a3)
    have es := (ReferenceIdeal.Shift.sin_table m' c).trans (congrArg KernelIdeal.Shift.sines a3)
    exact ⟨(h.1 c).1.trans (ReferenceIdeal.Shift.outCodes_eq m c _ _ _ _ _ _ e0 e1 e2 e4 ec es),
      (h.1 c).2.trans (ReferenceIdeal.Shift.outScales_eq m c _ _ _ _ _ _ e0 e1 e2 e4 ec es), h.2.1 c⟩

end Cert.Shift
-- ==== Proof.lean ====
module

public import proofs.«01_k».proof.Defs
public import proofs.«01_k».proof.Proof.Kernel.Run
public import proofs.«01_k».proof.Proof.Kernel.Tables
public import proofs.«01_k».proof.Proof.KernelIdeal.Run
public import proofs.«01_k».proof.Proof.KernelIdeal.Tables
public import proofs.«01_k».proof.Proof.Gen.ReferenceIdeal.Frame
public import proofs.«01_k».proof.Proof.Equal

@[expose] public section

noncomputable section

namespace Cert.Proof

open Idealize.ShloMosaic Idealize.SL.Sem

/-- All the claims at once. -/
theorem claim : Cert.Claim := ⟨Cert.Kernel.Gen.facts, Cert.KernelIdeal.Gen.facts, Cert.ReferenceIdeal.Gen.facts, Cert.Shift.preFacts,
  fun m ρ _ => Cert.Kernel.Shift.frame m ρ (Cert.Kernel.Shift.ok m),
  fun m ρ _ => Cert.KernelIdeal.Shift.frame m ρ (Cert.KernelIdeal.Shift.ok m),
  fun m ρ _ => Cert.KernelIdeal.Shift.frame m ρ (Cert.KernelIdeal.Shift.ok m),
  fun m ρ _ => Cert.ReferenceIdeal.Gen.frame m ρ,
  fun m ρ _ => Cert.ReferenceIdeal.Gen.frame m ρ,
  trivial,
  Cert.Shift.algebraic⟩

end Cert.Proof
